-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_positive [hPre_sizes_positive : Cert.Pre_sizes_positive.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sizes_proper [hPre_sizes_proper : Cert.Pre_sizes_proper.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_positive [hPre_sizes_positive : Cert.Pre_sizes_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sizes_positive [hKernelIdeal : Cert.KernelIdeal.Facts] [hPre_sizes_positive : Cert.Pre_sizes_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sizes_proper [hKernelIdeal : Cert.KernelIdeal.Facts] [hPre_sizes_proper : Cert.Pre_sizes_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sizes_positive [hReferenceIdeal : Cert.ReferenceIdeal.Facts] [hPre_sizes_positive : Cert.Pre_sizes_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sizes_positive [hKernelIdeal : Cert.KernelIdeal.Facts] [hReferenceIdeal : Cert.ReferenceIdeal.Facts] [hPre_sizes_positive : Cert.Pre_sizes_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_exact_pre_sizes_proper [hKernelIdeal : Cert.KernelIdeal.Facts] [hPre_sizes_proper : Cert.Pre_sizes_proper.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_proper m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v23))) = (fun _ => 1#1))

def Claim : Prop :=
  ∃ (hKernel : Cert.Kernel.Facts) (hKernelIdeal : Cert.KernelIdeal.Facts) (hReferenceIdeal : Cert.ReferenceIdeal.Facts) (hPre_sizes_positive : Cert.Pre_sizes_positive.Facts) (hPre_sizes_proper : Cert.Pre_sizes_proper.Facts) (hPost_near_exact : Cert.Post_near_exact.Facts),
    quiescent_Kernel (hKernel := hKernel)
    ∧ quiescent_KernelIdeal (hKernelIdeal := hKernelIdeal)
    ∧ quiescent_KernelIdeal_pre_sizes_positive (hKernelIdeal := hKernelIdeal) (hPre_sizes_positive := hPre_sizes_positive)
    ∧ quiescent_KernelIdeal_pre_sizes_proper (hKernelIdeal := hKernelIdeal) (hPre_sizes_proper := hPre_sizes_proper)
    ∧ quiescent_ReferenceIdeal (hReferenceIdeal := hReferenceIdeal)
    ∧ quiescent_ReferenceIdeal_pre_sizes_positive (hReferenceIdeal := hReferenceIdeal) (hPre_sizes_positive := hPre_sizes_positive)
    ∧ preserves_Kernel_KernelIdeal
    ∧ algebraic_KernelIdeal_ReferenceIdeal_pre_sizes_positive (hKernelIdeal := hKernelIdeal) (hReferenceIdeal := hReferenceIdeal) (hPre_sizes_positive := hPre_sizes_positive)
    ∧ holds_KernelIdeal_near_exact_pre_sizes_proper (hKernelIdeal := hKernelIdeal) (hPre_sizes_proper := hPre_sizes_proper) (hPost_near_exact := hPost_near_exact)
-- ==== Post_near_exact.lean ====
abbrev S4000000x4 : Shape := ⟨2, ![4000000, 4]⟩
abbrev S_ : Shape := ⟨0, ![]⟩
abbrev S4000000x1 : Shape := ⟨2, ![4000000, 1]⟩
abbrev S4000000 : Shape := ⟨1, ![4000000]⟩
abbrev S32x32 : Shape := ⟨2, ![32, 32]⟩
abbrev S4000000x2 : Shape := ⟨2, ![4000000, 2]⟩

class Facts : Prop where
  slices_S4000000x4_S4000000x1_0_0 : S4000000x4.Slices ![0, 0] S4000000x1
  shapeCasts_S4000000x1_S4000000 : S4000000x1.ShapeCasts S4000000
  bcast_S_S4000000 : S_.BroadcastsInDim S4000000 (![] : Fin 0 → Fin S4000000.rank)
  slices_S4000000x4_S4000000x1_0_1 : S4000000x4.Slices ![0, 1] S4000000x1
  bcast_S_S32x32 : S_.BroadcastsInDim S32x32 (![] : Fin 0 → Fin S32x32.rank)
  bcast_S4000000_S4000000x1_0 : S4000000.BroadcastsInDim S4000000x1 (![0] : Fin 1 → Fin S4000000x1.rank)
  concatenates_S4000000x1_S4000000x1_S4000000x2_d1 : Shape.Concatenates [S4000000x1, S4000000x1] S4000000x2 1
  reducesTo_S32x32_S_d0_1 : S32x32.ReducesTo [0, 1] S_
  h_S_ : 0 < S_.numel
  slices_S4000000x4_S4000000x1_0_2 : S4000000x4.Slices ![0, 2] S4000000x1
  slices_S4000000x4_S4000000x1_0_3 : S4000000x4.Slices ![0, 3] S4000000x1
  reducesTo_S4000000_S_d0 : S4000000.ReducesTo [0] S_
  scatter_S32x32_S4000000x2_S4000000_n_01_01_1_wf : ScatterDims.WF S32x32 S4000000x2 S4000000 [] [0, 1] [0, 1] 1

variable [Facts]

def scatter_S32x32_S4000000x2_S4000000_n_01_01_1 : ScatterDims S32x32 S4000000x2 S4000000 where
  updateWindowDims := []
  insertedWindowDims := [0, 1]
  scatterDimsToOperandDims := [0, 1]
  indexVectorDim := 1
  wf := scatter_S32x32_S4000000x2_S4000000_n_01_01_1_wf
def fn_clip {F : FTy → Type} [FloatOps F] (arg0 : IVec S4000000 32) (arg1 : IVec S_ 32) (arg2 : IVec S_ 32) : IVec S4000000 32 :=
  let v0 : IVec S_ 32 := id arg1
  let v1 : IVec S4000000 32 := broadcastInDim S4000000 ![] bcast_S_S4000000 v0
  let v2 : IVec S4000000 32 := maxsi v1 arg0
  let v3 : IVec S_ 32 := id arg2
  let v4 : IVec S4000000 32 := broadcastInDim S4000000 ![] bcast_S_S4000000 v3
  let v5 : IVec S4000000 32 := minsi v4 v2
  v5

def fn_clip_0 {F : FTy → Type} [FloatOps F] (arg0 : FVec F S4000000 .f32) (arg1 : FVec F S_ .f32) : FVec F S4000000 .f32 :=
  let v0 : FVec F S_ .f32 := id arg1
  let v1 : FVec F S4000000 .f32 := broadcastInDim S4000000 ![] bcast_S_S4000000 v0
  let v2 : FVec F S4000000 .f32 := maximumf v1 arg0
  v2

def fn_part8 {F : FTy → Type} [FloatOps F] (main_v149 : FVec F S_ .f32) (main_v151 : FVec F S_ .f32) : IVec S_ 1 :=
  let main_v152 : IVec S_ 1 := cmpf .ole main_v149 main_v151
  main_v152

def fn_part7 {F : FTy → Type} [FloatOps F] (main_arg2 : FVec F S_ .f32) (main_v34 : FVec F S32x32 .f32) (main_v128 : FVec F S4000000 .f32) (main_v135 : FVec F S4000000 .f32) (main_cst_29 : FVec F S_ .f32) : IVec S_ 1 :=
  let main_v136 : FVec F S4000000 .f32 := broadcastInDim S4000000 ![] bcast_S_S4000000 main_cst_29
  let main_v137 : FVec F S4000000 .f32 := Host.divf main_v136 main_v135
  let main_cst_30 : FVec F S_ .f32 := constant S_ .f32 0x3F800000#32
  let main_v138 : FVec F S4000000 .f32 := broadcastInDim S4000000 ![] bcast_S_S4000000 main_cst_30
  let main_v139 : FVec F S4000000 .f32 := subf main_v138 main_v128
  let main_cst_31 : FVec F S_ .f32 := constant S_ .f32 0x40400000#32
  let main_v140 : FVec F S4000000 .f32 := broadcastInDim S4000000 ![] bcast_S_S4000000 main_cst_31
  let main_v141 : FVec F S4000000 .f32 := Host.powf main_v139 main_v140
  let main_v142 : FVec F S4000000 .f32 := mulf main_v141 main_v137
  let main_cst_32 : FVec F S_ .f32 := constant S_ .f32 0x00000000#32
  let main_v143 : FVec F S_ .f32 := (fun x v => Host.reduceAdd x v reducesTo_S4000000_S_d0 h_S_) main_v142 main_cst_32
  let main_cst_33 : FVec F S_ .f32 := constant S_ .f32 0x4A742400#32
  let main_v144 : FVec F S_ .f32 := Host.divf main_v143 main_cst_33
  let main_cst_34 : FVec F S_ .f32 := constant S_ .f32 0x00000000#32
  let main_v145 : FVec F S_ .f32 := (fun x v => Host.reduceAdd x v reducesTo_S32x32_S_d0_1 h_S_) main_v34 main_cst_34
  let main_cst_35 : FVec F S_ .f32 := constant S_ .f32 0x44800000#32
  let main_v146 : FVec F S_ .f32 := Host.divf main_v145 main_cst_35
  let main_v147 : FVec F S_ .f32 := mulf main_v144 main_v146
  let main_v148 : FVec F S_ .f32 := subf main_arg2 main_v147
  let main_v149 : FVec F S_ .f32 := Host.absf main_v148
  let main_cst_36 : FVec F S_ .f32 := constant S_ .f32 0x360637BD#32
  let main_v150 : FVec F S_ .f32 := mulf main_cst_36 main_v147
  let main_cst_37 : FVec F S_ .f32 := constant S_ .f32 0x219392EF#32
  let main_v151 : FVec F S_ .f32 := addf main_v150 main_cst_37
  fn_part8 (F := F) main_v149 main_v151

def fn_part6 {F : FTy → Type} [FloatOps F] (main_arg1 : FVec F S4000000x4 .f32) (main_arg2 : FVec F S_ .f32) (main_v34 : FVec F S32x32 .f32) (main_v90 : FVec F S4000000 .f32) (main_v101 : FVec F S4000000 .f32) (main_v112 : FVec F S4000000 .f32) (main_v113 : FVec F S4000000 .f32) (main_v115 : FVec F S4000000 .f32) : IVec S_ 1 :=
  let main_v116 : FVec F S4000000 .f32 := Host.atan main_v113
  let main_v117 : FVec F S4000000 .f32 := subf main_v115 main_v116
  let main_v118 : FVec F S4000000 .f32 := mulf main_v117 main_v117
  let main_cst_26 : FVec F S_ .f32 := constant S_ .f32 0x3ECF817B#32
  let main_v119 : FVec F S4000000 .f32 := broadcastInDim S4000000 ![] bcast_S_S4000000 main_cst_26
  let main_v120 : FVec F S4000000 .f32 := mulf main_v119 main_v118
  let main_v121 : FVec F S4000000 .f32 := subf main_v120 main_v90
  let main_cst_27 : FVec F S_ .f32 := constant S_ .f32 0x3F800001#32
  let main_v122 : FVec F S4000000 .f32 := broadcastInDim S4000000 ![] bcast_S_S4000000 main_cst_27
  let main_v123 : FVec F S4000000 .f32 := addf main_v121 main_v122
  let main_v124 : FVec F S4000000 .f32 := Host.divf main_v120 main_v123
  let main_v125 : FVec F S4000000 .f32 := Host.divf main_v112 main_v101
  let main_v126 : FVec F S4000000 .f32 := mulf main_v120 main_v124
  let main_v127 : FVec F S4000000 .f32 := addf main_v125 main_v126
  let main_v128 : FVec F S4000000 .f32 := subf main_v90 main_v127
  let main_v129 : FVec F S4000000x1 .f32 := (extractStridedSlice S4000000x1 ![0, 2] · slices_S4000000x4_S4000000x1_0_2) main_arg1
  let main_v130 : FVec F S4000000 .f32 := shapeCast S4000000 main_v129 shapeCasts_S4000000x1_S4000000
  let main_v131 : FVec F S4000000x1 .f32 := (extractStridedSlice S4000000x1 ![0, 3] · slices_S4000000x4_S4000000x1_0_3) main_arg1
  let main_v132 : FVec F S4000000 .f32 := shapeCast S4000000 main_v131 shapeCasts_S4000000x1_S4000000
  let main_v133 : FVec F S4000000 .f32 := mulf main_v130 main_v132
  let main_cst_28 : FVec F S_ .f32 := constant S_ .f32 0x33D6BF95#32
  let main_v134 : FVec F S4000000 .f32 := broadcastInDim S4000000 ![] bcast_S_S4000000 main_cst_28
  let main_v135 : FVec F S4000000 .f32 := addf main_v133 main_v134
  let main_cst_29 : FVec F S_ .f32 := constant S_ .f32 0x3F800000#32
  fn_part7 (F := F) main_arg2 main_v34 main_v128 main_v135 main_cst_29

def fn_part5 {F : FTy → Type} [FloatOps F] (main_arg1 : FVec F S4000000x4 .f32) (main_arg2 : FVec F S_ .f32) (main_v34 : FVec F S32x32 .f32) (main_v40 : FVec F S4000000 .f32) (main_v42 : FVec F S4000000 .f32) (main_v48 : FVec F S4000000 .f32) (main_v50 : FVec F S4000000 .f32) (main_v53 : FVec F S4000000 .f32) (main_v56 : FVec F S4000000 .f32) (main_v59 : FVec F S4000000 .f32) (main_v62 : FVec F S4000000 .f32) (main_v65 : FVec F S4000000 .f32) (main_v68 : FVec F S4000000 .f32) (main_v71 : FVec F S4000000 .f32) (main_v74 : FVec F S4000000 .f32) (main_v90 : FVec F S4000000 .f32) (main_v93 : FVec F S4000000 .f32) : IVec S_ 1 :=
  let main_v94 : FVec F S4000000 .f32 := maximumf main_v62 main_v74
  let main_v95 : FVec F S4000000 .f32 := minimumf main_v59 main_v71
  let main_v96 : FVec F S4000000 .f32 := subf main_v94 main_v95
  let main_v97 : FVec F S4000000 .f32 := mulf main_v93 main_v93
  let main_v98 : FVec F S4000000 .f32 := mulf main_v96 main_v96
  let main_v99 : FVec F S4000000 .f32 := addf main_v97 main_v98
  let main_cst_24 : FVec F S_ .f32 := constant S_ .f32 0x33D6BF95#32
  let main_v100 : FVec F S4000000 .f32 := broadcastInDim S4000000 ![] bcast_S_S4000000 main_cst_24
  let main_v101 : FVec F S4000000 .f32 := addf main_v99 main_v100
  let main_v102 : FVec F S4000000 .f32 := addf main_v65 main_v68
  let main_v103 : FVec F S4000000 .f32 := subf main_v102 main_v53
  let main_v104 : FVec F S4000000 .f32 := subf main_v103 main_v56
  let main_v105 : FVec F S4000000 .f32 := mulf main_v104 main_v104
  let main_v106 : FVec F S4000000 .f32 := addf main_v71 main_v74
  let main_v107 : FVec F S4000000 .f32 := subf main_v106 main_v59
  let main_v108 : FVec F S4000000 .f32 := subf main_v107 main_v62
  let main_v109 : FVec F S4000000 .f32 := mulf main_v108 main_v108
  let main_v110 : FVec F S4000000 .f32 := addf main_v105 main_v109
  let main_cst_25 : FVec F S_ .f32 := constant S_ .f32 0x3E800000#32
  let main_v111 : FVec F S4000000 .f32 := broadcastInDim S4000000 ![] bcast_S_S4000000 main_cst_25
  let main_v112 : FVec F S4000000 .f32 := mulf main_v110 main_v111
  let main_v113 : FVec F S4000000 .f32 := Host.divf main_v40 main_v42
  let main_v114 : FVec F S4000000 .f32 := Host.divf main_v48 main_v50
  let main_v115 : FVec F S4000000 .f32 := Host.atan main_v114
  fn_part6 (F := F) main_arg1 main_arg2 main_v34 main_v90 main_v101 main_v112 main_v113 main_v115

def fn_part4 {F : FTy → Type} [FloatOps F] (main_arg1 : FVec F S4000000x4 .f32) (main_arg2 : FVec F S_ .f32) (main_v34 : FVec F S32x32 .f32) (main_v40 : FVec F S4000000 .f32) (main_v42 : FVec F S4000000 .f32) (main_v46 : FVec F S4000000 .f32) (main_v48 : FVec F S4000000 .f32) (main_v50 : FVec F S4000000 .f32) (main_v53 : FVec F S4000000 .f32) (main_v56 : FVec F S4000000 .f32) (main_v59 : FVec F S4000000 .f32) (main_v62 : FVec F S4000000 .f32) (main_v65 : FVec F S4000000 .f32) (main_v68 : FVec F S4000000 .f32) (main_v71 : FVec F S4000000 .f32) (main_v72 : FVec F S4000000 .f32) : IVec S_ 1 :=
  let main_v73 : FVec F S4000000 .f32 := mulf main_v50 main_v72
  let main_v74 : FVec F S4000000 .f32 := addf main_v46 main_v73
  let main_v75 : FVec F S4000000 .f32 := minimumf main_v56 main_v68
  let main_v76 : FVec F S4000000 .f32 := maximumf main_v53 main_v65
  let main_v77 : FVec F S4000000 .f32 := subf main_v75 main_v76
  let main_cst_21 : FVec F S_ .f32 := constant S_ .f32 0x00000000#32
  let main_v78 : FVec F S4000000 .f32 := fn_clip_0 (F := F) main_v77 main_cst_21
  let main_v79 : FVec F S4000000 .f32 := minimumf main_v62 main_v74
  let main_v80 : FVec F S4000000 .f32 := maximumf main_v59 main_v71
  let main_v81 : FVec F S4000000 .f32 := subf main_v79 main_v80
  let main_cst_22 : FVec F S_ .f32 := constant S_ .f32 0x00000000#32
  let main_v82 : FVec F S4000000 .f32 := fn_clip_0 (F := F) main_v81 main_cst_22
  let main_v83 : FVec F S4000000 .f32 := mulf main_v78 main_v82
  let main_v84 : FVec F S4000000 .f32 := mulf main_v40 main_v42
  let main_v85 : FVec F S4000000 .f32 := mulf main_v48 main_v50
  let main_v86 : FVec F S4000000 .f32 := addf main_v84 main_v85
  let main_v87 : FVec F S4000000 .f32 := subf main_v86 main_v83
  let main_cst_23 : FVec F S_ .f32 := constant S_ .f32 0x33D6BF95#32
  let main_v88 : FVec F S4000000 .f32 := broadcastInDim S4000000 ![] bcast_S_S4000000 main_cst_23
  let main_v89 : FVec F S4000000 .f32 := addf main_v87 main_v88
  let main_v90 : FVec F S4000000 .f32 := Host.divf main_v83 main_v89
  let main_v91 : FVec F S4000000 .f32 := maximumf main_v56 main_v68
  let main_v92 : FVec F S4000000 .f32 := minimumf main_v53 main_v65
  let main_v93 : FVec F S4000000 .f32 := subf main_v91 main_v92
  fn_part5 (F := F) main_arg1 main_arg2 main_v34 main_v40 main_v42 main_v48 main_v50 main_v53 main_v56 main_v59 main_v62 main_v65 main_v68 main_v71 main_v74 main_v90 main_v93

def fn_part3 {F : FTy → Type} [FloatOps F] (main_arg1 : FVec F S4000000x4 .f32) (main_arg2 : FVec F S_ .f32) (main_v34 : FVec F S32x32 .f32) (main_v36 : FVec F S4000000 .f32) (main_v38 : FVec F S4000000 .f32) (main_v40 : FVec F S4000000 .f32) (main_v42 : FVec F S4000000 .f32) (main_v44 : FVec F S4000000 .f32) (main_v46 : FVec F S4000000 .f32) (main_v48 : FVec F S4000000 .f32) (main_v50 : FVec F S4000000 .f32) (main_v53 : FVec F S4000000 .f32) (main_v54 : FVec F S4000000 .f32) : IVec S_ 1 :=
  let main_v55 : FVec F S4000000 .f32 := mulf main_v40 main_v54
  let main_v56 : FVec F S4000000 .f32 := addf main_v36 main_v55
  let main_cst_15 : FVec F S_ .f32 := constant S_ .f32 0x3F000000#32
  let main_v57 : FVec F S4000000 .f32 := broadcastInDim S4000000 ![] bcast_S_S4000000 main_cst_15
  let main_v58 : FVec F S4000000 .f32 := mulf main_v42 main_v57
  let main_v59 : FVec F S4000000 .f32 := subf main_v38 main_v58
  let main_cst_16 : FVec F S_ .f32 := constant S_ .f32 0x3F000000#32
  let main_v60 : FVec F S4000000 .f32 := broadcastInDim S4000000 ![] bcast_S_S4000000 main_cst_16
  let main_v61 : FVec F S4000000 .f32 := mulf main_v42 main_v60
  let main_v62 : FVec F S4000000 .f32 := addf main_v38 main_v61
  let main_cst_17 : FVec F S_ .f32 := constant S_ .f32 0x3F000000#32
  let main_v63 : FVec F S4000000 .f32 := broadcastInDim S4000000 ![] bcast_S_S4000000 main_cst_17
  let main_v64 : FVec F S4000000 .f32 := mulf main_v48 main_v63
  let main_v65 : FVec F S4000000 .f32 := subf main_v44 main_v64
  let main_cst_18 : FVec F S_ .f32 := constant S_ .f32 0x3F000000#32
  let main_v66 : FVec F S4000000 .f32 := broadcastInDim S4000000 ![] bcast_S_S4000000 main_cst_18
  let main_v67 : FVec F S4000000 .f32 := mulf main_v48 main_v66
  let main_v68 : FVec F S4000000 .f32 := addf main_v44 main_v67
  let main_cst_19 : FVec F S_ .f32 := constant S_ .f32 0x3F000000#32
  let main_v69 : FVec F S4000000 .f32 := broadcastInDim S4000000 ![] bcast_S_S4000000 main_cst_19
  let main_v70 : FVec F S4000000 .f32 := mulf main_v50 main_v69
  let main_v71 : FVec F S4000000 .f32 := subf main_v46 main_v70
  let main_cst_20 : FVec F S_ .f32 := constant S_ .f32 0x3F000000#32
  let main_v72 : FVec F S4000000 .f32 := broadcastInDim S4000000 ![] bcast_S_S4000000 main_cst_20
  fn_part4 (F := F) main_arg1 main_arg2 main_v34 main_v40 main_v42 main_v46 main_v48 main_v50 main_v53 main_v56 main_v59 main_v62 main_v65 main_v68 main_v71 main_v72

def fn_part2 {F : FTy → Type} [FloatOps F] (main_arg0 : FVec F S4000000x4 .f32) (main_arg1 : FVec F S4000000x4 .f32) (main_arg2 : FVec F S_ .f32) (main_v32 : FVec F S32x32 .f32) (main_cst_12 : FVec F S_ .f32) : IVec S_ 1 :=
  let main_v33 : FVec F S32x32 .f32 := broadcastInDim S32x32 ![] bcast_S_S32x32 main_cst_12
  let main_v34 : FVec F S32x32 .f32 := addf main_v33 main_v32
  let main_v35 : FVec F S4000000x1 .f32 := (extractStridedSlice S4000000x1 ![0, 0] · slices_S4000000x4_S4000000x1_0_0) main_arg0
  let main_v36 : FVec F S4000000 .f32 := shapeCast S4000000 main_v35 shapeCasts_S4000000x1_S4000000
  let main_v37 : FVec F S4000000x1 .f32 := (extractStridedSlice S4000000x1 ![0, 1] · slices_S4000000x4_S4000000x1_0_1) main_arg0
  let main_v38 : FVec F S4000000 .f32 := shapeCast S4000000 main_v37 shapeCasts_S4000000x1_S4000000
  let main_v39 : FVec F S4000000x1 .f32 := (extractStridedSlice S4000000x1 ![0, 2] · slices_S4000000x4_S4000000x1_0_2) main_arg0
  let main_v40 : FVec F S4000000 .f32 := shapeCast S4000000 main_v39 shapeCasts_S4000000x1_S4000000
  let main_v41 : FVec F S4000000x1 .f32 := (extractStridedSlice S4000000x1 ![0, 3] · slices_S4000000x4_S4000000x1_0_3) main_arg0
  let main_v42 : FVec F S4000000 .f32 := shapeCast S4000000 main_v41 shapeCasts_S4000000x1_S4000000
  let main_v43 : FVec F S4000000x1 .f32 := (extractStridedSlice S4000000x1 ![0, 0] · slices_S4000000x4_S4000000x1_0_0) main_arg1
  let main_v44 : FVec F S4000000 .f32 := shapeCast S4000000 main_v43 shapeCasts_S4000000x1_S4000000
  let main_v45 : FVec F S4000000x1 .f32 := (extractStridedSlice S4000000x1 ![0, 1] · slices_S4000000x4_S4000000x1_0_1) main_arg1
  let main_v46 : FVec F S4000000 .f32 := shapeCast S4000000 main_v45 shapeCasts_S4000000x1_S4000000
  let main_v47 : FVec F S4000000x1 .f32 := (extractStridedSlice S4000000x1 ![0, 2] · slices_S4000000x4_S4000000x1_0_2) main_arg1
  let main_v48 : FVec F S4000000 .f32 := shapeCast S4000000 main_v47 shapeCasts_S4000000x1_S4000000
  let main_v49 : FVec F S4000000x1 .f32 := (extractStridedSlice S4000000x1 ![0, 3] · slices_S4000000x4_S4000000x1_0_3) main_arg1
  let main_v50 : FVec F S4000000 .f32 := shapeCast S4000000 main_v49 shapeCasts_S4000000x1_S4000000
  let main_cst_13 : FVec F S_ .f32 := constant S_ .f32 0x3F000000#32
  let main_v51 : FVec F S4000000 .f32 := broadcastInDim S4000000 ![] bcast_S_S4000000 main_cst_13
  let main_v52 : FVec F S4000000 .f32 := mulf main_v40 main_v51
  let main_v53 : FVec F S4000000 .f32 := subf main_v36 main_v52
  let main_cst_14 : FVec F S_ .f32 := constant S_ .f32 0x3F000000#32
  let main_v54 : FVec F S4000000 .f32 := broadcastInDim S4000000 ![] bcast_S_S4000000 main_cst_14
  fn_part3 (F := F) main_arg1 main_arg2 main_v34 main_v36 main_v38 main_v40 main_v42 main_v44 main_v46 main_v48 main_v50 main_v53 main_v54

def fn_part1 {F : FTy → Type} [FloatOps F] (main_arg0 : FVec F S4000000x4 .f32) (main_arg1 : FVec F S4000000x4 .f32) (main_arg2 : FVec F S_ .f32) (main_v5 : IVec S4000000 32) (main_v11 : IVec S4000000 32) (main_v12 : FVec F S32x32 .f32) (main_v14 : IVec S4000000 1) (main_c_6 : IVec S_ 32) : IVec S_ 1 :=
  let main_v15 : IVec S4000000 32 := broadcastInDim S4000000 ![] bcast_S_S4000000 main_c_6
  let main_v16 : IVec S4000000 32 := addi main_v11 main_v15
  let main_v17 : IVec S4000000 32 := select main_v14 main_v16 main_v11
  let main_c_7 : IVec S_ 32 := constantI S_ 32 0#32
  let main_v18 : IVec S4000000 32 := broadcastInDim S4000000 ![] bcast_S_S4000000 main_c_7
  let main_v19 : IVec S4000000 1 := cmpi .slt main_v5 main_v18
  let main_c_8 : IVec S_ 32 := constantI S_ 32 32#32
  let main_v20 : IVec S4000000 32 := broadcastInDim S4000000 ![] bcast_S_S4000000 main_c_8
  let main_v21 : IVec S4000000 32 := addi main_v5 main_v20
  let main_v22 : IVec S4000000 32 := select main_v19 main_v21 main_v5
  let main_v23 : IVec S4000000x1 32 := broadcastInDim S4000000x1 ![0] bcast_S4000000_S4000000x1_0 main_v17
  let main_v24 : IVec S4000000x1 32 := broadcastInDim S4000000x1 ![0] bcast_S4000000_S4000000x1_0 main_v22
  let main_v25 : IVec S4000000x2 32 := (fun a b => concatenate S4000000x2 1 [⟨S4000000x1, a⟩, ⟨S4000000x1, b⟩] concatenates_S4000000x1_S4000000x1_S4000000x2_d1) main_v23 main_v24
  let main_cst_9 : FVec F S_ .f32 := constant S_ .f32 0x3F800000#32
  let main_v26 : FVec F S4000000 .f32 := broadcastInDim S4000000 ![] bcast_S_S4000000 main_cst_9
  let main_v27 : FVec F S32x32 .f32 := (fun x i u => Host.scatterAdd scatter_S32x32_S4000000x2_S4000000_n_01_01_1 x i u) main_v12 main_v25 main_v26
  let main_cst_10 : FVec F S_ .f32 := constant S_ .f32 0xFF800000#32
  let main_v28 : FVec F S_ .f32 := (fun x v => Host.reduce FloatOps.maximumf x v reducesTo_S32x32_S_d0_1 h_S_) main_v27 main_cst_10
  let main_v29 : FVec F S32x32 .f32 := broadcastInDim S32x32 ![] bcast_S_S32x32 main_v28
  let main_v30 : FVec F S32x32 .f32 := Host.divf main_v27 main_v29
  let main_cst_11 : FVec F S_ .f32 := constant S_ .f32 0x3FC00000#32
  let main_v31 : FVec F S32x32 .f32 := broadcastInDim S32x32 ![] bcast_S_S32x32 main_cst_11
  let main_v32 : FVec F S32x32 .f32 := mulf main_v31 main_v30
  let main_cst_12 : FVec F S_ .f32 := constant S_ .f32 0x3F800000#32
  fn_part2 (F := F) main_arg0 main_arg1 main_arg2 main_v32 main_cst_12

def fn {F : FTy → Type} [FloatOps F] (main_arg0 : FVec F S4000000x4 .f32) (main_arg1 : FVec F S4000000x4 .f32) (main_arg2 : FVec F S_ .f32) : IVec S_ 1 :=
  let main_v0 : FVec F S4000000x1 .f32 := (extractStridedSlice S4000000x1 ![0, 0] · slices_S4000000x4_S4000000x1_0_0) main_arg1
  let main_v1 : FVec F S4000000 .f32 := shapeCast S4000000 main_v0 shapeCasts_S4000000x1_S4000000
  let main_cst : FVec F S_ .f32 := constant S_ .f32 0x42000000#32
  let main_v2 : FVec F S4000000 .f32 := broadcastInDim S4000000 ![] bcast_S_S4000000 main_cst
  let main_v3 : FVec F S4000000 .f32 := mulf main_v1 main_v2
  let main_v4 : IVec S4000000 32 := fptosi 32 main_v3
  let main_c : IVec S_ 32 := constantI S_ 32 0#32
  let main_c_0 : IVec S_ 32 := constantI S_ 32 31#32
  let main_v5 : IVec S4000000 32 := fn_clip (F := F) main_v4 main_c main_c_0
  let main_v6 : FVec F S4000000x1 .f32 := (extractStridedSlice S4000000x1 ![0, 1] · slices_S4000000x4_S4000000x1_0_1) main_arg1
  let main_v7 : FVec F S4000000 .f32 := shapeCast S4000000 main_v6 shapeCasts_S4000000x1_S4000000
  let main_cst_1 : FVec F S_ .f32 := constant S_ .f32 0x42000000#32
  let main_v8 : FVec F S4000000 .f32 := broadcastInDim S4000000 ![] bcast_S_S4000000 main_cst_1
  let main_v9 : FVec F S4000000 .f32 := mulf main_v7 main_v8
  let main_v10 : IVec S4000000 32 := fptosi 32 main_v9
  let main_c_2 : IVec S_ 32 := constantI S_ 32 0#32
  let main_c_3 : IVec S_ 32 := constantI S_ 32 31#32
  let main_v11 : IVec S4000000 32 := fn_clip (F := F) main_v10 main_c_2 main_c_3
  let main_cst_4 : FVec F S_ .f32 := constant S_ .f32 0x00000000#32
  let main_v12 : FVec F S32x32 .f32 := broadcastInDim S32x32 ![] bcast_S_S32x32 main_cst_4
  let main_c_5 : IVec S_ 32 := constantI S_ 32 0#32
  let main_v13 : IVec S4000000 32 := broadcastInDim S4000000 ![] bcast_S_S4000000 main_c_5
  let main_v14 : IVec S4000000 1 := cmpi .slt main_v11 main_v13
  let main_c_6 : IVec S_ 32 := constantI S_ 32 32#32
  fn_part1 (F := F) main_arg0 main_arg1 main_arg2 main_v5 main_v11 main_v12 main_v14 main_c_6
-- ==== Pre_sizes_positive.lean ====
abbrev S4000000x4 : Shape := ⟨2, ![4000000, 4]⟩
abbrev S4000000x1 : Shape := ⟨2, ![4000000, 1]⟩
abbrev S4000000 : Shape := ⟨1, ![4000000]⟩
abbrev S_ : Shape := ⟨0, ![]⟩

class Facts : Prop where
  slices_S4000000x4_S4000000x1_0_3 : S4000000x4.Slices ![0, 3] S4000000x1
  shapeCasts_S4000000x1_S4000000 : S4000000x1.ShapeCasts S4000000
  bcast_S_S4000000 : S_.BroadcastsInDim S4000000 (![] : Fin 0 → Fin S4000000.rank)
  slices_S4000000x4_S4000000x1_0_2 : S4000000x4.Slices ![0, 2] S4000000x1

variable [Facts]

def fn {F : FTy → Type} [FloatOps F] (main_arg0 : FVec F S4000000x4 .f32) (main_arg1 : FVec F S4000000x4 .f32) : IVec S4000000 1 :=
  let main_v0 : FVec F S4000000x1 .f32 := (extractStridedSlice S4000000x1 ![0, 3] · slices_S4000000x4_S4000000x1_0_3) main_arg0
  let main_v1 : FVec F S4000000 .f32 := shapeCast S4000000 main_v0 shapeCasts_S4000000x1_S4000000
  let main_cst : FVec F S_ .f32 := constant S_ .f32 0x1E3CE508#32
  let main_v2 : FVec F S4000000 .f32 := broadcastInDim S4000000 ![] bcast_S_S4000000 main_cst
  let main_v3 : IVec S4000000 1 := cmpf .oge main_v1 main_v2
  let main_v4 : FVec F S4000000x1 .f32 := (extractStridedSlice S4000000x1 ![0, 3] · slices_S4000000x4_S4000000x1_0_3) main_arg1
  let main_v5 : FVec F S4000000 .f32 := shapeCast S4000000 main_v4 shapeCasts_S4000000x1_S4000000
  let main_cst_0 : FVec F S_ .f32 := constant S_ .f32 0x1E3CE508#32
  let main_v6 : FVec F S4000000 .f32 := broadcastInDim S4000000 ![] bcast_S_S4000000 main_cst_0
  let main_v7 : IVec S4000000 1 := cmpf .oge main_v5 main_v6
  let main_v8 : IVec S4000000 1 := andi main_v3 main_v7
  let main_v9 : FVec F S4000000x1 .f32 := (extractStridedSlice S4000000x1 ![0, 2] · slices_S4000000x4_S4000000x1_0_2) main_arg1
  let main_v10 : FVec F S4000000 .f32 := shapeCast S4000000 main_v9 shapeCasts_S4000000x1_S4000000
  let main_cst_1 : FVec F S_ .f32 := constant S_ .f32 0x00000000#32
  let main_v11 : FVec F S4000000 .f32 := broadcastInDim S4000000 ![] bcast_S_S4000000 main_cst_1
  let main_v12 : IVec S4000000 1 := cmpf .oge main_v10 main_v11
  let main_v13 : IVec S4000000 1 := andi main_v8 main_v12
  main_v13
-- ==== Pre_sizes_proper.lean ====
abbrev S4000000x4 : Shape := ⟨2, ![4000000, 4]⟩
abbrev S_ : Shape := ⟨0, ![]⟩
abbrev S4000000x1 : Shape := ⟨2, ![4000000, 1]⟩
abbrev S4000000 : Shape := ⟨1, ![4000000]⟩

class Facts : Prop where
  bcast_S_S4000000x4 : S_.BroadcastsInDim S4000000x4 (![] : Fin 0 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)

variable [Facts]

def fn_part1 {F : FTy → Type} [FloatOps F] (main_arg0 : FVec F S4000000x4 .f32) (main_arg1 : FVec F S4000000x4 .f32) (main_v17 : IVec S4000000 1) (main_v19 : FVec F S4000000 .f32) (main_v20 : FVec F S4000000 .f32) : IVec S4000000 1 :=
  let main_v21 : IVec S4000000 1 := cmpf .oge main_v19 main_v20
  let main_v22 : IVec S4000000 1 := andi main_v17 main_v21
  let main_v23 : FVec F S4000000x1 .f32 := (extractStridedSlice S4000000x1 ![0, 3] · slices_S4000000x4_S4000000x1_0_3) main_arg1
  let main_v24 : FVec F S4000000 .f32 := shapeCast S4000000 main_v23 shapeCasts_S4000000x1_S4000000
  let main_cst_2 : FVec F S_ .f32 := constant S_ .f32 0x1E3CE508#32
  let main_v25 : FVec F S4000000 .f32 := broadcastInDim S4000000 ![] bcast_S_S4000000 main_cst_2
  let main_v26 : IVec S4000000 1 := cmpf .oge main_v24 main_v25
  let main_v27 : IVec S4000000 1 := andi main_v22 main_v26
  let main_v28 : FVec F S4000000x1 .f32 := (extractStridedSlice S4000000x1 ![0, 2] · slices_S4000000x4_S4000000x1_0_2) main_arg0
  let main_v29 : FVec F S4000000 .f32 := shapeCast S4000000 main_v28 shapeCasts_S4000000x1_S4000000
  let main_cst_3 : FVec F S_ .f32 := constant S_ .f32 0x00000000#32
  let main_v30 : FVec F S4000000 .f32 := broadcastInDim S4000000 ![] bcast_S_S4000000 main_cst_3
  let main_v31 : IVec S4000000 1 := cmpf .oge main_v29 main_v30
  let main_v32 : IVec S4000000 1 := andi main_v27 main_v31
  let main_v33 : FVec F S4000000x1 .f32 := (extractStridedSlice S4000000x1 ![0, 2] · slices_S4000000x4_S4000000x1_0_2) main_arg1
  let main_v34 : FVec F S4000000 .f32 := shapeCast S4000000 main_v33 shapeCasts_S4000000x1_S4000000
  let main_cst_4 : FVec F S_ .f32 := constant S_ .f32 0x00000000#32
  let main_v35 : FVec F S4000000 .f32 := broadcastInDim S4000000 ![] bcast_S_S4000000 main_cst_4
  let main_v36 : IVec S4000000 1 := cmpf .oge main_v34 main_v35
  let main_v37 : IVec S4000000 1 := andi main_v32 main_v36
  main_v37

def fn {F : FTy → Type} [FloatOps F] (main_arg0 : FVec F S4000000x4 .f32) (main_arg1 : FVec F S4000000x4 .f32) : IVec S4000000 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_v3 : FVec F S4000000x4 .f32 := Host.absf main_arg1
  let main_cst_0 : FVec F S_ .f32 := constant S_ .f32 0x7F800000#32
  let main_v4 : FVec F S4000000x4 .f32 := broadcastInDim S4000000x4 ![] bcast_S_S4000000x4 main_cst_0
  let main_v5 : IVec S4000000x4 1 := cmpf .olt main_v3 main_v4
  let main_v6 : IVec S4000000x4 1 := andi main_v2 main_v5
  let main_v7 : IVec S4000000x1 1 := (extractStridedSlice S4000000x1 ![0, 0] · slices_S4000000x4_S4000000x1_0_0) main_v6
  let main_v8 : IVec S4000000 1 := shapeCast S4000000 main_v7 shapeCasts_S4000000x1_S4000000
  let main_v9 : IVec S4000000x1 1 := (extractStridedSlice S4000000x1 ![0, 1] · slices_S4000000x4_S4000000x1_0_1) main_v6
  let main_v10 : IVec S4000000 1 := shapeCast S4000000 main_v9 shapeCasts_S4000000x1_S4000000
  let main_v11 : IVec S4000000 1 := andi main_v8 main_v10
  let main_v12 : IVec S4000000x1 1 := (extractStridedSlice S4000000x1 ![0, 2] · slices_S4000000x4_S4000000x1_0_2) main_v6
  let main_v13 : IVec S4000000 1 := shapeCast S4000000 main_v12 shapeCasts_S4000000x1_S4000000
  let main_v14 : IVec S4000000 1 := andi main_v11 main_v13
  let main_v15 : IVec S4000000x1 1 := (extractStridedSlice S4000000x1 ![0, 3] · slices_S4000000x4_S4000000x1_0_3) main_v6
  let main_v16 : IVec S4000000 1 := shapeCast S4000000 main_v15 shapeCasts_S4000000x1_S4000000
  let main_v17 : IVec S4000000 1 := andi main_v14 main_v16
  let main_v18 : FVec F S4000000x1 .f32 := (extractStridedSlice S4000000x1 ![0, 3] · slices_S4000000x4_S4000000x1_0_3) main_arg0
  let main_v19 : FVec F S4000000 .f32 := shapeCast S4000000 main_v18 shapeCasts_S4000000x1_S4000000
  let main_cst_1 : FVec F S_ .f32 := constant S_ .f32 0x1E3CE508#32
  let main_v20 : FVec F S4000000 .f32 := broadcastInDim S4000000 ![] bcast_S_S4000000 main_cst_1
  fn_part1 (F := F) main_arg0 main_arg1 main_v17 main_v19 main_v20
-- ==== Kernel.lean ====
abbrev S4000000x4 : Shape := ⟨2, ![4000000, 4]⟩
abbrev S_ : Shape := ⟨0, ![]⟩
abbrev S4030464x4 : Shape := ⟨2, ![4030464, 4]⟩
abbrev S4x4030464 : Shape := ⟨2, ![4, 4030464]⟩
abbrev S4x1968x2048 : Shape := ⟨3, ![4, 1968, 2048]⟩
abbrev S123x32x32 : Shape := ⟨3, ![123, 32, 32]⟩
abbrev S123x1x2048 : Shape := ⟨3, ![123, 1, 2048]⟩
abbrev S4x16x2048 : Shape := ⟨3, ![4, 16, 2048]⟩
abbrev S1x32x32 : Shape := ⟨3, ![1, 32, 32]⟩
abbrev S1x1x2048 : Shape := ⟨3, ![1, 1, 2048]⟩
abbrev S1x2048 : Shape := ⟨2, ![1, 2048]⟩
abbrev S1x8x2048 : Shape := ⟨3, ![1, 8, 2048]⟩
abbrev S8x2048 : Shape := ⟨2, ![8, 2048]⟩
abbrev S2048 : Shape := ⟨1, ![2048]⟩
abbrev S1x16x2048 : Shape := ⟨3, ![1, 16, 2048]⟩
abbrev S16x2048 : Shape := ⟨2, ![16, 2048]⟩
abbrev S32x2048 : Shape := ⟨2, ![32, 2048]⟩
abbrev S32x32 : Shape := ⟨2, ![32, 32]⟩
abbrev S1 : Shape := ⟨1, ![1]⟩
abbrev S2 : Shape := ⟨1, ![2]⟩

abbrev nBuf : Space → Nat
  | .hbm => 42
  | .vmem => 8
  | .smem => 0
  | _ => 0

abbrev bufTy : (tb : Table) → Fin (tcTables nBuf tb) → BufTy
  | .hbm, ⟨0, _⟩ => ⟨S4000000x4, .f32⟩
  | .hbm, ⟨1, _⟩ => ⟨S4000000x4, .f32⟩
  | .hbm, ⟨2, _⟩ => ⟨S_, .f32⟩
  | .hbm, ⟨3, _⟩ => ⟨S_, .f32⟩
  | .hbm, ⟨4, _⟩ => ⟨S4030464x4, .f32⟩
  | .hbm, ⟨5, _⟩ => ⟨S4x4030464, .f32⟩
  | .hbm, ⟨6, _⟩ => ⟨S4x1968x2048, .f32⟩
  | .hbm, ⟨7, _⟩ => ⟨S_, .f32⟩
  | .hbm, ⟨8, _⟩ => ⟨S_, .f32⟩
  | .hbm, ⟨9, _⟩ => ⟨S4030464x4, .f32⟩
  | .hbm, ⟨10, _⟩ => ⟨S4x4030464, .f32⟩
  | .hbm, ⟨11, _⟩ => ⟨S4x1968x2048, .f32⟩
  | .hbm, ⟨12, _⟩ => ⟨S123x32x32, .f32⟩
  | .hbm, ⟨13, _⟩ => ⟨S123x1x2048, .f32⟩
  | .hbm, ⟨14, _⟩ => ⟨S_, .f32⟩
  | .hbm, ⟨15, _⟩ => ⟨S32x32, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S_, .f32⟩
  | .hbm, ⟨22, _⟩ => ⟨S32x32, .f32⟩
  | .hbm, ⟨23, _⟩ => ⟨S_, .f32⟩
  | .hbm, ⟨24, _⟩ => ⟨S_, .f32⟩
  | .hbm, ⟨25, _⟩ => ⟨S32x32, .f32⟩
  | .hbm, ⟨26, _⟩ => ⟨S32x32, .f32⟩
  | .hbm, ⟨27, _⟩ => ⟨S_, .f32⟩
  | .hbm, ⟨28, _⟩ => ⟨S32x32, .f32⟩
  | .hbm, ⟨29, _⟩ => ⟨S32x32, .f32⟩
  | .hbm, ⟨30, _⟩ => ⟨S_, .f32⟩
  | .hbm, ⟨31, _⟩ => ⟨S32x32, .f32⟩
  | .hbm, ⟨32, _⟩ => ⟨S32x32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S4x16x2048, .f32⟩
  | .local _ .vmem, ⟨1, _⟩ => ⟨S4x16x2048, .f32⟩
  | .local _ .vmem, ⟨2, _⟩ => ⟨S4x16x2048, .f32⟩
  | .local _ .vmem, ⟨3, _⟩ => ⟨S4x16x2048, .f32⟩
  | .local _ .vmem, ⟨4, _⟩ => ⟨S1x32x32, .f32⟩
  | .local _ .vmem, ⟨5, _⟩ => ⟨S1x32x32, .f32⟩
  | .local _ .vmem, ⟨6, _⟩ => ⟨S1x1x2048, .f32⟩
  | .local _ .vmem, ⟨7, _⟩ => ⟨S1x1x2048, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_cst_1 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_cst_9 : Ref sig .tc := ⟨.hbm, 37, rfl⟩
abbrev main_v21 : Ref sig .tc := ⟨.hbm, 38, rfl⟩
abbrev main_cst_10 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![123], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4000000x4 : Shape := ⟨2, ![4000000, 4]⟩
abbrev S_ : Shape := ⟨0, ![]⟩
abbrev S30464x4 : Shape := ⟨2, ![30464, 4]⟩
abbrev S4000000x1 : Shape := ⟨2, ![4000000, 1]⟩
abbrev S4000000 : Shape := ⟨1, ![4000000]⟩
abbrev S30464x1 : Shape := ⟨2, ![30464, 1]⟩
abbrev S30464 : Shape := ⟨1, ![30464]⟩
abbrev S32x32 : Shape := ⟨2, ![32, 32]⟩
abbrev S4000000x2 : Shape := ⟨2, ![4000000, 2]⟩

abbrev nBuf : Space → Nat
  | .hbm => 442
  | .vmem => 0
  | .smem => 0
  | _ => 0

abbrev hbmTy0_0 (i : Nat) : BufTy := match i % 128 with
  | 0 => ⟨S4000000x4, .f32⟩
  | 1 => ⟨S4000000x4, .f32⟩
  | 2 => ⟨S_, .f32⟩
  | 3 => ⟨S30464x4, .f32⟩
  | 4 => ⟨S4000000x1, .f32⟩
  | 5 => ⟨S4000000, .f32⟩
  | 6 => ⟨S4000000x1, .f32⟩
  | 7 => ⟨S4000000, .f32⟩
  | 8 => ⟨S4000000x1, .f32⟩
  | 9 => ⟨S4000000, .f32⟩
  | 10 => ⟨S4000000x1, .f32⟩
  | 11 => ⟨S4000000, .f32⟩
  | 12 => ⟨S4000000x1, .f32⟩
  | 13 => ⟨S4000000, .f32⟩
  | 14 => ⟨S4000000x1, .f32⟩
  | 15 => ⟨S4000000, .f32⟩
  | 16 => ⟨S4000000x1, .f32⟩
  | 17 => ⟨S4000000, .f32⟩
  | 18 => ⟨S4000000x1, .f32⟩
  | 19 => ⟨S4000000, .f32⟩
  | 20 => ⟨S_, .f32⟩
  | 21 => ⟨S4000000, .f32⟩
  | 22 => ⟨S4000000, .f32⟩
  | 23 => ⟨S4000000, .f32⟩
  | 24 => ⟨S_, .f32⟩
  | 25 => ⟨S4000000, .f32⟩
  | 26 => ⟨S4000000, .f32⟩
  | 27 => ⟨S4000000, .f32⟩
  | 28 => ⟨S_, .f32⟩
  | 29 => ⟨S4000000, .f32⟩
  | 30 => ⟨S4000000, .f32⟩
  | 31 => ⟨S4000000, .f32⟩
  | 32 => ⟨S_, .f32⟩
  | 33 => ⟨S4000000, .f32⟩
  | 34 => ⟨S4000000, .f32⟩
  | 35 => ⟨S4000000, .f32⟩
  | 36 => ⟨S_, .f32⟩
  | 37 => ⟨S4000000, .f32⟩
  | 38 => ⟨S4000000, .f32⟩
  | 39 => ⟨S4000000, .f32⟩
  | 40 => ⟨S_, .f32⟩
  | 41 => ⟨S4000000, .f32⟩
  | 42 => ⟨S4000000, .f32⟩
  | 43 => ⟨S4000000, .f32⟩
  | 44 => ⟨S_, .f32⟩
  | 45 => ⟨S4000000, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S4000000, .f32⟩
  | 52 => ⟨S4000000, .f32⟩
  | 53 => ⟨S4000000, .f32⟩
  | 54 => ⟨S4000000, .f32⟩
  | 55 => ⟨S_, .f32⟩
  | 56 => ⟨S_, .f32⟩
  | 57 => ⟨S4000000, .f32⟩
  | 58 => ⟨S4000000, .f32⟩
  | 59 => ⟨S4000000, .f32⟩
  | 60 => ⟨S4000000, .f32⟩
  | 61 => ⟨S4000000, .f32⟩
  | 62 => ⟨S_, .f32⟩
  | 63 => ⟨S_, .f32⟩
  | 64 => ⟨S4000000, .f32⟩
  | 65 => ⟨S4000000, .f32⟩
  | 66 => ⟨S4000000, .f32⟩
  | 67 => ⟨S4000000, .f32⟩
  | 68 => ⟨S4000000, .f32⟩
  | 69 => ⟨S4000000, .f32⟩
  | 70 => ⟨S4000000, .f32⟩
  | 71 => ⟨S_, .f32⟩
  | 72 => ⟨S4000000, .f32⟩
  | 73 => ⟨S4000000, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S4000000, .f32⟩
  | 84 => ⟨S_, .f32⟩
  | 85 => ⟨S4000000, .f32⟩
  | 86 => ⟨S4000000, .f32⟩
  | 87 => ⟨S4000000, .f32⟩
  | 88 => ⟨S4000000, .f32⟩
  | 89 => ⟨S4000000, .f32⟩
  | 90 => ⟨S4000000, .f32⟩
  | 91 => ⟨S4000000, .f32⟩
  | 92 => ⟨S4000000, .f32⟩
  | 93 => ⟨S4000000, .f32⟩
  | 94 => ⟨S4000000, .f32⟩
  | 95 => ⟨S4000000, .f32⟩
  | 96 => ⟨S_, .f32⟩
  | 97 => ⟨S4000000, .f32⟩
  | 98 => ⟨S4000000, .f32⟩
  | 99 => ⟨S4000000, .f32⟩
  | 100 => ⟨S4000000, .f32⟩
  | 101 => ⟨S4000000, .f32⟩
  | 102 => ⟨S4000000, .f32⟩
  | 103 => ⟨S4000000, .f32⟩
  | 104 => ⟨S_, .f32⟩
  | 105 => ⟨S4000000, .f32⟩
  | 106 => ⟨S4000000, .f32⟩
  | 107 => ⟨S4000000, .f32⟩
  | 108 => ⟨S_, .f32⟩
  | 109 => ⟨S4000000, .f32⟩
  | 110 => ⟨S4000000, .f32⟩
  | 111 => ⟨S4000000, .f32⟩
  | 112 => ⟨S4000000, .f32⟩
  | 113 => ⟨S_, .f32⟩
  | 114 => ⟨S4000000, .f32⟩
  | 115 => ⟨S4000000, .f32⟩
  | 116 => ⟨S_, .f32⟩
  | 117 => ⟨S4000000, .f32⟩
  | 118 => ⟨S4000000, .f32⟩
  | 119 => ⟨S4000000, .f32⟩
  | 120 => ⟨S_, .f32⟩
  | 121 => ⟨S4000000, .f32⟩
  | 122 => ⟨S4000000, .f32⟩
  | 123 => ⟨S4000000, .f32⟩
  | 124 => ⟨S_, .f32⟩
  | 125 => ⟨S4000000, .f32⟩
  | 126 => ⟨S4000000, .f32⟩
  | 127 => ⟨S4000000, .f32⟩
  | _ => ⟨S4000000x4, .f32⟩

abbrev hbmTy0_1 (i : Nat) : BufTy := match i % 128 with
  | 0 => ⟨S_, .f32⟩
  | 1 => ⟨S4000000, .f32⟩
  | 2 => ⟨S4000000, .f32⟩
  | 3 => ⟨S4000000, .f32⟩
  | 4 => ⟨S_, .f32⟩
  | 5 => ⟨S4000000, .f32⟩
  | 6 => ⟨S4000000, .f32⟩
  | 7 => ⟨S4000000, .f32⟩
  | 8 => ⟨S_, .f32⟩
  | 9 => ⟨S4000000, .f32⟩
  | 10 => ⟨S4000000, .f32⟩
  | 11 => ⟨S4000000, .f32⟩
  | 12 => ⟨S_, .f32⟩
  | 13 => ⟨S4000000, .f32⟩
  | 14 => ⟨S4000000, .f32⟩
  | 15 => ⟨S4000000, .f32⟩
  | 16 => ⟨S_, .f32⟩
  | 17 => ⟨S4000000, .f32⟩
  | 18 => ⟨S4000000, .f32⟩
  | 19 => ⟨S_, .f32⟩
  | 20 => ⟨S4000000, .f32⟩
  | 21 => ⟨S4000000, .i1⟩
  | 22 => ⟨S4000000, .f32⟩
  | 23 => ⟨S_, .f32⟩
  | 24 => ⟨S4000000, .f32⟩
  | 25 => ⟨S4000000, .f32⟩
  | 26 => ⟨S4000000, .f32⟩
  | 27 => ⟨S4000000, .f32⟩
  | 28 => ⟨S4000000, .f32⟩
  | 29 => ⟨S_, .f32⟩
  | 30 => ⟨S4000000, .f32⟩
  | 31 => ⟨S4000000, .f32⟩
  | 32 => ⟨S4000000, .f32⟩
  | 33 => ⟨S_, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000x1, .f32⟩
  | 42 => ⟨S4000000, .f32⟩
  | 43 => ⟨S4000000x1, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S_, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S_, .f32⟩
  | 56 => ⟨S4000000, .f32⟩
  | 57 => ⟨S4000000, .f32⟩
  | 58 => ⟨S4000000, .f32⟩
  | 59 => ⟨S_, .f32⟩
  | 60 => ⟨S_, .f32⟩
  | 61 => ⟨S30464x1, .f32⟩
  | 62 => ⟨S30464, .f32⟩
  | 63 => ⟨S30464x1, .f32⟩
  | 64 => ⟨S30464, .f32⟩
  | 65 => ⟨S30464x1, .f32⟩
  | 66 => ⟨S30464, .f32⟩
  | 67 => ⟨S30464x1, .f32⟩
  | 68 => ⟨S30464, .f32⟩
  | 69 => ⟨S30464x1, .f32⟩
  | 70 => ⟨S30464, .f32⟩
  | 71 => ⟨S30464x1, .f32⟩
  | 72 => ⟨S30464, .f32⟩
  | 73 => ⟨S30464x1, .f32⟩
  | 74 => ⟨S30464, .f32⟩
  | 75 => ⟨S30464x1, .f32⟩
  | 76 => ⟨S30464, .f32⟩
  | 77 => ⟨S_, .f32⟩
  | 78 => ⟨S30464, .f32⟩
  | 79 => ⟨S30464, .f32⟩
  | 80 => ⟨S30464, .f32⟩
  | 81 => ⟨S_, .f32⟩
  | 82 => ⟨S30464, .f32⟩
  | 83 => ⟨S30464, .f32⟩
  | 84 => ⟨S30464, .f32⟩
  | 85 => ⟨S_, .f32⟩
  | 86 => ⟨S30464, .f32⟩
  | 87 => ⟨S30464, .f32⟩
  | 88 => ⟨S30464, .f32⟩
  | 89 => ⟨S_, .f32⟩
  | 90 => ⟨S30464, .f32⟩
  | 91 => ⟨S30464, .f32⟩
  | 92 => ⟨S30464, .f32⟩
  | 93 => ⟨S_, .f32⟩
  | 94 => ⟨S30464, .f32⟩
  | 95 => ⟨S30464, .f32⟩
  | 96 => ⟨S30464, .f32⟩
  | 97 => ⟨S_, .f32⟩
  | 98 => ⟨S30464, .f32⟩
  | 99 => ⟨S30464, .f32⟩
  | 100 => ⟨S30464, .f32⟩
  | 101 => ⟨S_, .f32⟩
  | 102 => ⟨S30464, .f32⟩
  | 103 => ⟨S30464, .f32⟩
  | 104 => ⟨S30464, .f32⟩
  | 105 => ⟨S_, .f32⟩
  | 106 => ⟨S30464, .f32⟩
  | 107 => ⟨S30464, .f32⟩
  | 108 => ⟨S30464, .f32⟩
  | 109 => ⟨S30464, .f32⟩
  | 110 => ⟨S30464, .f32⟩
  | 111 => ⟨S30464, .f32⟩
  | 112 => ⟨S_, .f32⟩
  | 113 => ⟨S_, .f32⟩
  | 114 => ⟨S30464, .f32⟩
  | 115 => ⟨S30464, .f32⟩
  | 116 => ⟨S30464, .f32⟩
  | 117 => ⟨S30464, .f32⟩
  | 118 => ⟨S30464, .f32⟩
  | 119 => ⟨S_, .f32⟩
  | 120 => ⟨S_, .f32⟩
  | 121 => ⟨S30464, .f32⟩
  | 122 => ⟨S30464, .f32⟩
  | 123 => ⟨S30464, .f32⟩
  | 124 => ⟨S30464, .f32⟩
  | 125 => ⟨S30464, .f32⟩
  | 126 => ⟨S30464, .f32⟩
  | 127 => ⟨S30464, .f32⟩
  | _ => ⟨S4000000x4, .f32⟩

abbrev hbmTy0_2 (i : Nat) : BufTy := match i % 128 with
  | 0 => ⟨S_, .f32⟩
  | 1 => ⟨S30464, .f32⟩
  | 2 => ⟨S30464, .f32⟩
  | 3 => ⟨S30464, .f32⟩
  | 4 => ⟨S30464, .f32⟩
  | 5 => ⟨S30464, .f32⟩
  | 6 => ⟨S30464, .f32⟩
  | 7 => ⟨S30464, .f32⟩
  | 8 => ⟨S30464, .f32⟩
  | 9 => ⟨S30464, .f32⟩
  | 10 => ⟨S30464, .f32⟩
  | 11 => ⟨S30464, .f32⟩
  | 12 => ⟨S30464, .f32⟩
  | 13 => ⟨S_, .f32⟩
  | 14 => ⟨S30464, .f32⟩
  | 15 => ⟨S30464, .f32⟩
  | 16 => ⟨S30464, .f32⟩
  | 17 => ⟨S30464, .f32⟩
  | 18 => ⟨S30464, .f32⟩
  | 19 => ⟨S30464, .f32⟩
  | 20 => ⟨S30464, .f32⟩
  | 21 => ⟨S30464, .f32⟩
  | 22 => ⟨S30464, .f32⟩
  | 23 => ⟨S30464, .f32⟩
  | 24 => ⟨S30464, .f32⟩
  | 25 => ⟨S_, .f32⟩
  | 26 => ⟨S30464, .f32⟩
  | 27 => ⟨S30464, .f32⟩
  | 28 => ⟨S30464, .f32⟩
  | 29 => ⟨S30464, .f32⟩
  | 30 => ⟨S30464, .f32⟩
  | 31 => ⟨S30464, .f32⟩
  | 32 => ⟨S30464, .f32⟩
  | 33 => ⟨S_, .f32⟩
  | 34 => ⟨S30464, .f32⟩
  | 35 => ⟨S30464, .f32⟩
  | 36 => ⟨S30464, .f32⟩
  | 37 => ⟨S_, .f32⟩
  | 38 => ⟨S30464, .f32⟩
  | 39 => ⟨S30464, .f32⟩
  | 40 => ⟨S30464, .f32⟩
  | 41 => ⟨S30464, .f32⟩
  | 42 => ⟨S_, .f32⟩
  | 43 => ⟨S30464, .f32⟩
  | 44 => ⟨S30464, .f32⟩
  | 45 => ⟨S_, .f32⟩
  | 46 => ⟨S30464, .f32⟩
  | 47 => ⟨S30464, .f32⟩
  | 48 => ⟨S30464, .f32⟩
  | 49 => ⟨S_, .f32⟩
  | 50 => ⟨S30464, .f32⟩
  | 51 => ⟨S30464, .f32⟩
  | 52 => ⟨S30464, .f32⟩
  | 53 => ⟨S_, .f32⟩
  | 54 => ⟨S30464, .f32⟩
  | 55 => ⟨S30464, .f32⟩
  | 56 => ⟨S30464, .f32⟩
  | 57 => ⟨S_, .f32⟩
  | 58 => ⟨S30464, .f32⟩
  | 59 => ⟨S30464, .f32⟩
  | 60 => ⟨S30464, .f32⟩
  | 61 => ⟨S_, .f32⟩
  | 62 => ⟨S30464, .f32⟩
  | 63 => ⟨S30464, .f32⟩
  | 64 => ⟨S30464, .f32⟩
  | 65 => ⟨S_, .f32⟩
  | 66 => ⟨S30464, .f32⟩
  | 67 => ⟨S30464, .f32⟩
  | 68 => ⟨S30464, .f32⟩
  | 69 => ⟨S_, .f32⟩
  | 70 => ⟨S30464, .f32⟩
  | 71 => ⟨S30464, .f32⟩
  | 72 => ⟨S30464, .f32⟩
  | 73 => ⟨S_, .f32⟩
  | 74 => ⟨S30464, .f32⟩
  | 75 => ⟨S30464, .f32⟩
  | 76 => ⟨S_, .f32⟩
  | 77 => ⟨S30464, .f32⟩
  | 78 => ⟨S30464, .i1⟩
  | 79 => ⟨S30464, .f32⟩
  | 80 => ⟨S_, .f32⟩
  | 81 => ⟨S30464, .f32⟩
  | 82 => ⟨S30464, .f32⟩
  | 83 => ⟨S30464, .f32⟩
  | 84 => ⟨S30464, .f32⟩
  | 85 => ⟨S30464, .f32⟩
  | 86 => ⟨S_, .f32⟩
  | 87 => ⟨S30464, .f32⟩
  | 88 => ⟨S30464, .f32⟩
  | 89 => ⟨S30464, .f32⟩
  | 90 => ⟨S_, .f32⟩
  | 91 => ⟨S30464, .f32⟩
  | 92 => ⟨S30464, .f32⟩
  | 93 => ⟨S30464, .f32⟩
  | 94 => ⟨S30464, .f32⟩
  | 95 => ⟨S30464, .f32⟩
  | 96 => ⟨S30464, .f32⟩
  | 97 => ⟨S30464, .f32⟩
  | 98 => ⟨S30464x1, .f32⟩
  | 99 => ⟨S30464, .f32⟩
  | 100 => ⟨S30464x1, .f32⟩
  | 101 => ⟨S30464, .f32⟩
  | 102 => ⟨S30464, .f32⟩
  | 103 => ⟨S_, .f32⟩
  | 104 => ⟨S30464, .f32⟩
  | 105 => ⟨S30464, .f32⟩
  | 106 => ⟨S_, .f32⟩
  | 107 => ⟨S30464, .f32⟩
  | 108 => ⟨S30464, .f32⟩
  | 109 => ⟨S_, .f32⟩
  | 110 => ⟨S30464, .f32⟩
  | 111 => ⟨S30464, .f32⟩
  | 112 => ⟨S_, .f32⟩
  | 113 => ⟨S30464, .f32⟩
  | 114 => ⟨S30464, .f32⟩
  | 115 => ⟨S30464, .f32⟩
  | 116 => ⟨S_, .f32⟩
  | 117 => ⟨S_, .f32⟩
  | 118 => ⟨S_, .f32⟩
  | 119 => ⟨S4000000x1, .f32⟩
  | 120 => ⟨S4000000, .f32⟩
  | 121 => ⟨S_, .f32⟩
  | 122 => ⟨S4000000, .f32⟩
  | 123 => ⟨S4000000, .f32⟩
  | 124 => ⟨S4000000, .i32⟩
  | 125 => ⟨S_, .i32⟩
  | 126 => ⟨S_, .i32⟩
  | 127 => ⟨S_, .i32⟩
  | _ => ⟨S4000000x4, .f32⟩

abbrev hbmTy0_3 (i : Nat) : BufTy := match i % 128 with
  | 0 => ⟨S4000000, .i32⟩
  | 1 => ⟨S4000000, .i32⟩
  | 2 => ⟨S_, .i32⟩
  | 3 => ⟨S4000000, .i32⟩
  | 4 => ⟨S4000000, .i32⟩
  | 5 => ⟨S4000000x1, .f32⟩
  | 6 => ⟨S4000000, .f32⟩
  | 7 => ⟨S_, .f32⟩
  | 8 => ⟨S4000000, .f32⟩
  | 9 => ⟨S4000000, .f32⟩
  | 10 => ⟨S4000000, .i32⟩
  | 11 => ⟨S_, .i32⟩
  | 12 => ⟨S_, .i32⟩
  | 13 => ⟨S_, .i32⟩
  | 14 => ⟨S4000000, .i32⟩
  | 15 => ⟨S4000000, .i32⟩
  | 16 => ⟨S_, .i32⟩
  | 17 => ⟨S4000000, .i32⟩
  | 18 => ⟨S4000000, .i32⟩
  | 19 => ⟨S_, .f32⟩
  | 20 => ⟨S32x32, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S_, .i32⟩
  | 29 => ⟨S4000000, .i32⟩
  | 30 => ⟨S4000000, .i1⟩
  | 31 => ⟨S_, .i32⟩
  | 32 => ⟨S4000000, .i32⟩
  | 33 => ⟨S4000000, .i32⟩
  | 34 => ⟨S4000000, .i32⟩
  | 35 => ⟨S4000000x1, .i32⟩
  | 36 => ⟨S4000000x1, .i32⟩
  | 37 => ⟨S4000000x2, .i32⟩
  | 38 => ⟨S_, .f32⟩
  | 39 => ⟨S4000000, .f32⟩
  | 40 => ⟨S32x32, .f32⟩
  | 41 => ⟨S_, .f32⟩
  | 42 => ⟨S_, .f32⟩
  | 43 => ⟨S32x32, .f32⟩
  | 44 => ⟨S32x32, .f32⟩
  | 45 => ⟨S_, .f32⟩
  | 46 => ⟨S32x32, .f32⟩
  | 47 => ⟨S32x32, .f32⟩
  | 48 => ⟨S_, .f32⟩
  | 49 => ⟨S32x32, .f32⟩
  | 50 => ⟨S32x32, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | _ => ⟨S4000000x4, .f32⟩

abbrev hbmTy (i : Nat) : BufTy := match i / 128 with
  | 0 => hbmTy0_0 i
  | 1 => hbmTy0_1 i
  | 2 => hbmTy0_2 i
  | 3 => hbmTy0_3 i
  | _ => ⟨S4000000x4, .f32⟩

abbrev bufTy : (tb : Table) → Fin (tcTables nBuf tb) → BufTy
  | .hbm, ⟨i, _⟩ => hbmTy i
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_8 : Ref sig .tc := ⟨.hbm, 55, rfl⟩
abbrev main_call0_v0 : Ref sig .tc := ⟨.hbm, 56, rfl⟩
abbrev main_call0_v1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_call1_v0 : Ref sig .tc := ⟨.hbm, 63, rfl⟩
abbrev main_call1_v1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_13 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_cst_16 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_17 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_18 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_19 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_20 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_21 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_22 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_23 : Ref sig .tc := ⟨.hbm, 144, rfl⟩
abbrev main_v114 : Ref sig .tc := ⟨.hbm, 145, rfl⟩
abbrev main_v115 : Ref sig .tc := ⟨.hbm, 146, rfl⟩
abbrev main_cst_24 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_25 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_26 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_27 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_28 : Ref sig .tc := ⟨.hbm, 174, rfl⟩
abbrev main_v139 : Ref sig .tc := ⟨.hbm, 175, rfl⟩
abbrev main_v140 : Ref sig .tc := ⟨.hbm, 176, rfl⟩
abbrev main_cst_29 : Ref sig .tc := ⟨.hbm, 177, rfl⟩
abbrev main_v141 : Ref sig .tc := ⟨.hbm, 178, rfl⟩
abbrev main_v142 : Ref sig .tc := ⟨.hbm, 179, rfl⟩
abbrev main_cst_30 : Ref sig .tc := ⟨.hbm, 180, rfl⟩
abbrev main_v143 : Ref sig .tc := ⟨.hbm, 181, rfl⟩
abbrev main_v144 : Ref sig .tc := ⟨.hbm, 182, rfl⟩
abbrev main_cst_31 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_32 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_33 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_34 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_35 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_36 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_37 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_38 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_39 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_40 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_cst_41 : Ref sig .tc := ⟨.hbm, 240, rfl⟩
abbrev main_call3_v0 : Ref sig .tc := ⟨.hbm, 241, rfl⟩
abbrev main_call3_v1 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_cst_42 : Ref sig .tc := ⟨.hbm, 247, rfl⟩
abbrev main_call4_v0 : Ref sig .tc := ⟨.hbm, 248, rfl⟩
abbrev main_call4_v1 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_43 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_cst_44 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_cst_45 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_cst_46 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_cst_47 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_cst_48 : Ref sig .tc := ⟨.hbm, 298, rfl⟩
abbrev main_v239 : Ref sig .tc := ⟨.hbm, 299, rfl⟩
abbrev main_v240 : Ref sig .tc := ⟨.hbm, 300, rfl⟩
abbrev main_cst_49 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_cst_50 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_cst_51 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_cst_52 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_cst_53 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_cst_54 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_cst_55 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_cst_56 : Ref sig .tc := ⟨.hbm, 329, rfl⟩
abbrev main_v262 : Ref sig .tc := ⟨.hbm, 330, rfl⟩
abbrev main_v263 : Ref sig .tc := ⟨.hbm, 331, rfl⟩
abbrev main_cst_57 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_cst_58 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_cst_59 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_cst_60 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_cst_61 : Ref sig .tc := ⟨.hbm, 359, rfl⟩
abbrev main_v287 : Ref sig .tc := ⟨.hbm, 360, rfl⟩
abbrev main_v288 : Ref sig .tc := ⟨.hbm, 361, rfl⟩
abbrev main_cst_62 : Ref sig .tc := ⟨.hbm, 362, rfl⟩
abbrev main_v289 : Ref sig .tc := ⟨.hbm, 363, rfl⟩
abbrev main_v290 : Ref sig .tc := ⟨.hbm, 364, rfl⟩
abbrev main_cst_63 : Ref sig .tc := ⟨.hbm, 365, rfl⟩
abbrev main_v291 : Ref sig .tc := ⟨.hbm, 366, rfl⟩
abbrev main_v292 : Ref sig .tc := ⟨.hbm, 367, rfl⟩
abbrev main_cst_64 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_cst_65 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_cst_66 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_c : Ref sig .tc := ⟨.hbm, 381, rfl⟩
abbrev main_c_67 : Ref sig .tc := ⟨.hbm, 382, rfl⟩
abbrev main_call6_v0 : Ref sig .tc := ⟨.hbm, 383, rfl⟩
abbrev main_call6_v1 : Ref sig .tc := ⟨.hbm, 384, rfl⟩
abbrev main_call6_v2 : Ref sig .tc := ⟨.hbm, 385, rfl⟩
abbrev main_call6_v3 : Ref sig .tc := ⟨.hbm, 386, rfl⟩
abbrev main_call6_v4 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_cst_68 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_c_69 : Ref sig .tc := ⟨.hbm, 395, rfl⟩
abbrev main_c_70 : Ref sig .tc := ⟨.hbm, 396, rfl⟩
abbrev main_call7_v0 : Ref sig .tc := ⟨.hbm, 397, rfl⟩
abbrev main_call7_v1 : Ref sig .tc := ⟨.hbm, 398, rfl⟩
abbrev main_call7_v2 : Ref sig .tc := ⟨.hbm, 399, rfl⟩
abbrev main_call7_v3 : Ref sig .tc := ⟨.hbm, 400, rfl⟩
abbrev main_call7_v4 : Ref sig .tc := ⟨.hbm, 401, rfl⟩
abbrev main_v309 : Ref sig .tc := ⟨.hbm, 402, rfl⟩
abbrev main_cst_71 : Ref sig .tc := ⟨.hbm, 403, rfl⟩
abbrev main_v310 : Ref sig .tc := ⟨.hbm, 404, rfl⟩
abbrev main_c_72 : Ref sig .tc := ⟨.hbm, 405, rfl⟩
abbrev main_v311 : Ref sig .tc := ⟨.hbm, 406, rfl⟩
abbrev main_v312 : Ref sig .tc := ⟨.hbm, 407, rfl⟩
abbrev main_c_73 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_c_74 : Ref sig .tc := ⟨.hbm, 412, rfl⟩
abbrev main_v316 : Ref sig .tc := ⟨.hbm, 413, rfl⟩
abbrev main_v317 : Ref sig .tc := ⟨.hbm, 414, rfl⟩
abbrev main_c_75 : Ref sig .tc := ⟨.hbm, 415, rfl⟩
abbrev main_v318 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_cst_76 : Ref sig .tc := ⟨.hbm, 422, rfl⟩
abbrev main_v324 : Ref sig .tc := ⟨.hbm, 423, rfl⟩
abbrev main_v325 : Ref sig .tc := ⟨.hbm, 424, rfl⟩
abbrev main_cst_77 : Ref sig .tc := ⟨.hbm, 425, rfl⟩
abbrev main_v326 : Ref sig .tc := ⟨.hbm, 426, rfl⟩
abbrev main_v327 : Ref sig .tc := ⟨.hbm, 427, rfl⟩
abbrev main_v328 : Ref sig .tc := ⟨.hbm, 428, rfl⟩
abbrev main_cst_78 : Ref sig .tc := ⟨.hbm, 429, rfl⟩
abbrev main_v329 : Ref sig .tc := ⟨.hbm, 430, rfl⟩
abbrev main_v330 : Ref sig .tc := ⟨.hbm, 431, rfl⟩
abbrev main_cst_79 : Ref sig .tc := ⟨.hbm, 432, rfl⟩
abbrev main_v331 : Ref sig .tc := ⟨.hbm, 433, rfl⟩
abbrev main_v332 : Ref sig .tc := ⟨.hbm, 434, rfl⟩
abbrev main_cst_80 : Ref sig .tc := ⟨.hbm, 435, rfl⟩
abbrev main_v333 : Ref sig .tc := ⟨.hbm, 436, rfl⟩
abbrev main_cst_81 : Ref sig .tc := ⟨.hbm, 437, rfl⟩
abbrev main_v334 : Ref sig .tc := ⟨.hbm, 438, rfl⟩
abbrev main_cst_82 : Ref sig .tc := ⟨.hbm, 439, rfl⟩
abbrev main_v335 : Ref sig .tc := ⟨.hbm, 440, rfl⟩
abbrev main_v336 : Ref sig .tc := ⟨.hbm, 441, rfl⟩

abbrev nD : Nat := 1
abbrev τ : Topo := Topo.v7x

variable {F : FTy → Type} [FloatOps F]
-- ==== Proof.Loss.lean ====
/-
  The loss of one pair of boxes on the extended reals, as a function of the eight components and of the angle between
  the two aspect ratios. Both programs compute this function; the two spellings of its last step (a cube by
  multiplication over an area, a power times an inverse area) are compared here.
-/
module

public import Idealize.ShloMosaic.PureOps.Ideal
public import Idealize.ShloMosaic.Lib.IdealHost

@[expose] public section

set_option maxRecDepth 16384

noncomputable section

namespace Cert.BoxLoss

open Idealize.ShloMosaic

/-- The single-precision number with the given bits, as an extended real. -/
abbrev num (b : BitVec 32) : EReal := Ideal.ofBits .f32 b

/-- Length of the overlap of the two intervals with centres `x`, `x'` and half lengths `h`, `h'`, never negative. -/
def overlap (x h x' h' : EReal) : EReal := max (min (x + h) (x' + h') - max (x - h) (x' - h')) 0

/-- Length of the smallest interval containing the two. -/
def hull (x h x' h' : EReal) : EReal := max (x + h) (x' + h') - min (x - h) (x' - h')

/-- Twice the distance of the two centres, as both programs have it: the sum of one interval's ends less the other's. -/
def shift (x h x' h' : EReal) : EReal := (x' - h') + (x' + h') - (x - h) - (x + h)

/-- Intersection over union of the boxes `(x, y, w, h)` and `(x', y', w', h')`. -/
def iou (x y w h x' y' w' h' : EReal) : EReal :=
  Ideal.div (overlap x (w * num 0x3F000000#32) x' (w' * num 0x3F000000#32)
      * overlap y (h * num 0x3F000000#32) y' (h' * num 0x3F000000#32))
    (w * h + w' * h' - overlap x (w * num 0x3F000000#32) x' (w' * num 0x3F000000#32)
      * overlap y (h * num 0x3F000000#32) y' (h' * num 0x3F000000#32) + num 0x33D6BF95#32)

/-- Squared diagonal of the box that encloses both. -/
def diag (x y w h x' y' w' h' : EReal) : EReal :=
  hull x (w * num 0x3F000000#32) x' (w' * num 0x3F000000#32) * hull x (w * num 0x3F000000#32) x' (w' * num 0x3F000000#32)
    + hull y (h * num 0x3F000000#32) y' (h' * num 0x3F000000#32) * hull y (h * num 0x3F000000#32) y' (h' * num 0x3F000000#32)
    + num 0x33D6BF95#32

/-- Squared distance of the two centres. -/
def centreDist (x y w h x' y' w' h' : EReal) : EReal :=
  (shift x (w * num 0x3F000000#32) x' (w' * num 0x3F000000#32) * shift x (w * num 0x3F000000#32) x' (w' * num 0x3F000000#32)
    + shift y (h * num 0x3F000000#32) y' (h' * num 0x3F000000#32) * shift y (h * num 0x3F000000#32) y' (h' * num 0x3F000000#32))
    * num 0x3E800000#32

/-- The aspect term `4/pi^2 * a^2` of the angle `a` between the two aspect ratios. -/
def aspect (a : EReal) : EReal := num 0x3ECF817B#32 * (a * a)

/-- One less the complete intersection over union, from the overlap ratio `u`, the centre term `d` and the aspect
    term `v`. -/
def gap (u d v : EReal) : EReal :=
  1 - (u - (d + v * Ideal.div v (v - u + num 0x3F800001#32)))

/-- The loss of one pair of boxes whose aspect ratios make the angle `a`: the cube of the gap over the target's area. -/
def loss (a x y w h x' y' w' h' : EReal) : EReal :=
  Ideal.div (gap (iou x y w h x' y' w' h') (Ideal.div (centreDist x y w h x' y' w' h') (diag x y w h x' y' w' h')) (aspect a)
    * gap (iou x y w h x' y' w' h') (Ideal.div (centreDist x y w h x' y' w' h') (diag x y w h x' y' w' h')) (aspect a)
    * gap (iou x y w h x' y' w' h') (Ideal.div (centreDist x y w h x' y' w' h') (diag x y w h x' y' w' h')) (aspect a))
    (w' * h' + num 0x33D6BF95#32)

/-- The same loss spelt as a power times an inverse area. -/
def lossPow (a x y w h x' y' w' h' : EReal) : EReal :=
  Ideal.pow (gap (iou x y w h x' y' w' h') (Ideal.div (centreDist x y w h x' y' w' h') (diag x y w h x' y' w' h')) (aspect a))
      (num 0x40400000#32)
    * Ideal.div (1) (w' * h' + num 0x33D6BF95#32)

/-- The polynomial part of the arctangent of a number `t` of [0, 1]: odd, of degree 17. -/
def oddPoly (t : EReal) : EReal :=
  t * ((((((((num 0x3B46D714#32 * (t * t) + num 0xBC896244#32) * (t * t) + num 0x3D334C15#32) * (t * t)
    + num 0xBD9B757A#32) * (t * t) + num 0x3DDAB4AA#32) * (t * t) + num 0xBE1189AD#32) * (t * t)
    + num 0x3E4CBC30#32) * (t * t) + num 0xBEAAAA63#32) * (t * t) + 1)

/-- The polynomial arctangent of `r >= 0`: the polynomial on [0, 1], and a quarter turn less the polynomial of the
    inverse beyond 1. -/
def atanPoly (r : EReal) : EReal :=
  if 1 < r then num 0x3FC90FDB#32 - oddPoly (min r (Ideal.div (1) r))
  else oddPoly (min r (Ideal.div (1) r))

/-- The tangent of the difference of two angles whose tangents are `p` and `q`, taken positive. -/
def tanDiff (p q : EReal) : EReal :=
  Ideal.div (max (q - p) (-(q - p))) (1 + q * p)

/-- The overlap with the zero written first. -/
theorem overlap_zero_first (x h x' h' : EReal) :
    overlap x h x' h' = max 0 (min (x + h) (x' + h') - max (x - h) (x' - h')) := max_comm _ _

/-- The polynomial arctangent as a selection by the compared word. -/
theorem atanPoly_select (r : EReal) :
    atanPoly r = Scalar.select (Ideal.cmp .ogt r 1)
      (num 0x3FC90FDB#32 - oddPoly (min r (Ideal.div 1 r))) (oddPoly (min r (Ideal.div 1 r))) := by
  unfold atanPoly Ideal.cmp
  by_cases h : 1 < r <;> simp [h, Scalar.select]

/-- The heights that divide are raised to this tiny number first. -/
abbrev tiny : EReal := num 0x1E3CE508#32

/-- The value of the normal number whose sign is `sgn`, whose exponent field is `ex` and whose fraction is `fr`. -/
theorem num_value (b : BitVec 32) (ex fr : ℕ) (sgn : ℝ) (hs : (if b.extractLsb' 31 1 == 1#1 then (-1 : ℝ) else 1) = sgn)
    (he : (b.extractLsb' 23 8).toNat = ex) (hf : (b.extractLsb' 0 23).toNat = fr) (h0 : ex ≠ 0) (h1 : ex ≠ 255) :
    num b = ((sgn * (2 ^ 23 + fr : ℕ) * (2 : ℝ) ^ ((ex : ℤ) - 127 - 23) : ℝ) : EReal) := by
  subst hs he hf
  show (if _ then _ else if _ then _ else _) = _
  rw [if_neg (by norm_num; exact h1), if_neg h0]
  norm_num

/-- The value of the constant one half. -/
theorem num_half : num 0x3F000000#32 = ((1 / 2 : ℝ) : EReal) := by
  rw [num_value 0x3F000000#32 126 0 1 (by simp) (by decide) (by decide) (by decide) (by decide)]
  norm_num

/-- The value of the constant three. -/
theorem num_three : num 0x40400000#32 = ((3 : ℝ) : EReal) := by
  rw [num_value 0x40400000#32 128 4194304 1 (by simp) (by decide) (by decide) (by decide) (by decide)]
  norm_num

/-- The floor under the heights is positive. -/
theorem tiny_pos : 0 < tiny := by
  rw [show tiny = num 0x1E3CE508#32 from rfl, num_value 0x1E3CE508#32 60 3990792 1 (by simp) (by decide) (by decide) (by decide) (by decide)]
  rw [← EReal.coe_zero, EReal.coe_lt_coe_iff]
  positivity

/-- The floor under the heights is below one half. -/
theorem tiny_le_half : tiny ≤ num 0x3F000000#32 := by
  rw [num_half, show tiny = num 0x1E3CE508#32 from rfl, num_value 0x1E3CE508#32 60 3990792 1 (by simp) (by decide) (by decide) (by decide) (by decide),
    EReal.coe_le_coe_iff]
  norm_num

/-- The constant that keeps the divisors off zero is positive. -/
theorem eps_pos : 0 < num 0x33D6BF95#32 := by
  rw [num_value 0x33D6BF95#32 103 5685141 1 (by simp) (by decide) (by decide) (by decide) (by decide)]
  rw [← EReal.coe_zero, EReal.coe_lt_coe_iff]
  positivity

/-- The third power of any extended real is its cube. -/
theorem pow_three (x : EReal) : Ideal.pow x (num 0x40400000#32) = x * x * x := by
  rw [num_three]
  induction x with
  | bot => rfl
  | top =>
    show (if (0 : EReal) < ((3 : ℝ) : EReal) then (⊤ : EReal) else _) = _
    rw [if_pos (by norm_num)]
    rfl
  | coe x =>
    show ((Real.rpow x 3 : ℝ) : EReal) = _
    rw [← EReal.coe_mul, ← EReal.coe_mul]
    refine congrArg _ ?_
    show x ^ (3 : ℝ) = _
    rw [show (3 : ℝ) = ((3 : ℕ) : ℝ) by norm_num, Real.rpow_natCast]
    ring

/-- A target of nonnegative width and height has an area that stays off zero. -/
theorem area_ne_zero {w h : EReal} (hw : 0 ≤ w) (hh : 0 ≤ h) : w * h + num 0x33D6BF95#32 ≠ 0 :=
  (lt_of_lt_of_le eps_pos (le_add_of_nonneg_left (mul_nonneg hw hh))).ne'

/-- The two spellings of the loss agree where the target's sizes are not negative. -/
theorem lossPow_eq (a x y w h x' y' w' h' : EReal) (hw : 0 ≤ w') (hh : 0 ≤ h') :
    lossPow a x y w h x' y' w' h' = loss a x y w h x' y' w' h' := by
  unfold lossPow loss
  rw [pow_three, Ideal.mul_one_div (area_ne_zero hw hh)]

end Cert.BoxLoss
-- ==== Proof.Density.lean ====
/-
  The density map: which of the 32 by 32 cells a point falls in, the indicator of that cell, what the filling boxes
  contribute, and the last step of the loss, which weighs a total by the mean of the normalised map.
-/
module

public import proofs.«01_k».proof.Proof.Loss
public import Idealize.ShloMosaic.Lib.WordCmp

@[expose] public section

noncomputable section

namespace Cert.BoxLoss

open Idealize.ShloMosaic

/-- The cell, 0 to 31, that a coordinate falls in, as a word. -/
def cell (v : EReal) : BitVec 32 := IntOp.minsi 31#32 (IntOp.maxsi 0#32 (Ideal.fptosi 32 (v * num 0x42000000#32)))

/-- One where the point `(x, y)` falls in row `i` and column `j` of the map, else zero. -/
def hit (x y : EReal) (i j : Fin 32) : EReal := if (cell y).toNat = i ∧ (cell x).toNat = j then 1 else 0

/-- A cell's word is below 32. -/
theorem cell_lt (v : EReal) : (cell v).toNat < 32 := by
  unfold cell IntOp.minsi IntOp.maxsi
  generalize Ideal.fptosi 32 (v * num 0x42000000#32) = w
  have h0 : (0#32 : BitVec 32).toInt = 0 := by decide
  have h31 : (31#32 : BitVec 32).toInt = 31 := by decide
  simp only [BitVec.slt_eq_decide, decide_eq_true_eq, h0, h31]
  have hw := BitVec.toInt_eq_toNat_cond w
  split <;> split <;> simp_all <;> omega

/-- The indicator as a selection by two compared words. -/
theorem select_hit (x y : EReal) (i j : Fin 32) :
    Scalar.select (IntOp.cmpi .eq (cell x) (BitVec.ofNat 32 j))
      (Scalar.select (IntOp.cmpi .eq (cell y) (BitVec.ofNat 32 i)) (1 : EReal) 0) 0 = hit x y i j := by
  have key : ∀ (u : BitVec 32) (k : Fin 32) (a b : EReal),
      Scalar.select (IntOp.cmpi .eq u (BitVec.ofNat 32 k)) a b = if u.toNat = k then a else b := by
    intro u k a b
    have : (u == BitVec.ofNat 32 k) = decide (u.toNat = (k : ℕ)) := by
      rw [Bool.eq_iff_iff, beq_iff_eq, decide_eq_true_eq, ← BitVec.toNat_inj, BitVec.toNat_ofNat,
        Nat.mod_eq_of_lt (by omega)]
    unfold IntOp.cmpi
    simp only [this]
    by_cases h : u.toNat = k <;> simp [h, Scalar.select]
  rw [key, key]
  unfold hit
  by_cases h : (cell x).toNat = j <;> by_cases h' : (cell y).toNat = i <;> simp [h, h']

/-- A coordinate of one half falls in cell 16. -/
theorem cell_half : cell (num 0x3F000000#32) = 16#32 := by
  have h : num 0x3F000000#32 * num 0x42000000#32 = ((16 : ℝ) : EReal) := by
    rw [num_half]
    rw [num_value 0x42000000#32 132 0 1 (by simp) (by decide) (by decide) (by decide) (by decide), ← EReal.coe_mul]
    norm_num
  have h' : Ideal.fptosi 32 ((16 : ℝ) : EReal) = 16#32 := by
    show BitVec.ofInt 32 (max (-(2 ^ 31 : ℕ) : ℤ) (min ((2 ^ 31 : ℕ) - 1 : ℤ) (if (0 : ℝ) ≤ 16 then ⌊(16 : ℝ)⌋ else ⌈(16 : ℝ)⌉))) = _
    rw [if_pos (by norm_num), show ⌊(16 : ℝ)⌋ = 16 by norm_num]
    decide
  unfold cell
  rw [h, h']
  decide

/-- The constant that takes the filling boxes out of their cell is their number, negated. -/
theorem num_fill : num 0xC6EE0000#32 = ((-30464 : ℝ) : EReal) := by
  rw [num_value 0xC6EE0000#32 141 7208960 (-1) (by simp) (by decide) (by decide) (by decide) (by decide)]
  norm_num

/-- The filling boxes' count in cell `(i, j)`, with the correction in cell `(16, 16)`, is nothing. -/
theorem fill_count (i j : Fin 32) :
    (∑ _b : Fin 30464, hit (num 0x3F000000#32) (num 0x3F000000#32) i j)
      + (if i = 16 ∧ j = 16 then num 0xC6EE0000#32 else 0) = 0 := by
  unfold hit
  rw [cell_half, num_fill]
  have e : ∀ k : Fin 32, ((16#32 : BitVec 32).toNat = k) ↔ k = 16 := by decide
  simp only [e]
  by_cases h : i = 16 ∧ j = 16
  · simp only [h, and_self, if_true]
    rw [Finset.sum_const, Finset.card_univ, Fintype.card_fin, EReal.nsmul_eq_mul, mul_one]
    rw [show ((30464 : ℕ) : EReal) = ((30464 : ℝ) : EReal) by norm_cast, ← EReal.coe_add]
    norm_num
  · simp [h]

/-- The last step of the loss: the mean of the total over the boxes, times the mean of one plus three halves of the map
    divided by its greatest entry. -/
def finish (counts : Fin 32 → Fin 32 → EReal) (total : EReal) : EReal :=
  Ideal.div total (num 0x4A742400#32)
    * Ideal.div (∑ i, ∑ j, (1 + num 0x3FC00000#32 * Ideal.div (counts i j)
        (Finset.fold max (num 0xFF800000#32) (fun k : Fin 32 × Fin 32 => counts k.1 k.2) Finset.univ)))
      (num 0x44800000#32)

end Cert.BoxLoss
-- ==== Proof.Sums.lean ====
/-
  Sums over a tiled array written as one sum over the flat index: a row of 2048 lanes after another, sixteen rows to a
  block, and the flat range cut where the real boxes end.
-/
module

public import Mathlib.Algebra.BigOperators.Fin
public import Mathlib.Algebra.BigOperators.Intervals

@[expose] public section

namespace Cert.TiledSums

/-- Summing over `a` tiles of `b` elements each is summing over the `a * b` elements in a row. -/
theorem sum_tiles {M : Type*} [AddCommMonoid M] (a b : ℕ) (f : ℕ → M) :
    ∑ t : Fin a, ∑ r : Fin b, f (t * b + r) = ∑ i ∈ Finset.range (a * b), f i := by
  rw [Fin.sum_univ_eq_sum_range (fun t => ∑ r : Fin b, f (t * b + r)) a]
  induction a with
  | zero => simp
  | succ n ih =>
    rw [Finset.sum_range_succ, ih, Nat.succ_mul, Finset.sum_range_add,
      Fin.sum_univ_eq_sum_range (fun r => f (n * b + r)) b]

/-- The sum over 123 blocks of sixteen rows of 2048 lanes is the sum over the four million boxes plus the sum over the
    30464 that fill the last block. -/
theorem sum_blocks {M : Type*} [AddCommMonoid M] (f : ℕ → M) :
    ∑ t : Fin 123, ∑ r : Fin 16, ∑ l : Fin 2048, f ((16 * t + r) * 2048 + l)
      = ∑ b : Fin 4000000, f b + ∑ b : Fin 30464, f (4000000 + b) := by
  have h := sum_tiles 123 16 fun i => ∑ l : Fin 2048, f (i * 2048 + l)
  have h' := sum_tiles (123 * 16) 2048 f
  rw [Fin.sum_univ_eq_sum_range (fun t => ∑ l : Fin 2048, f (t * 2048 + l))] at h'
  rw [Fin.sum_univ_eq_sum_range f, Fin.sum_univ_eq_sum_range (fun b => f (4000000 + b)), ← Finset.sum_range_add]
  refine Eq.trans (Finset.sum_congr rfl fun t _ => Finset.sum_congr rfl fun r _ => ?_) (h.trans h')
  rw [Nat.mul_comm 16]

/-- A sum over sixteen rows is the sum over the first eight plus the sum over the last eight. -/
theorem sum_halves {M : Type*} [AddCommMonoid M] (f : Fin 16 → M) :
    (∑ k : Fin 8, f ⟨k, by omega⟩) + ∑ k : Fin 8, f ⟨8 + k, by omega⟩ = ∑ r : Fin 16, f r :=
  (Fin.sum_univ_add (a := 8) (b := 8) f).symm

/-- A sum over sixteen rows, written out from the first to the last. -/
theorem sum_rows {M : Type*} [AddCommMonoid M] (f : Fin 16 → M) :
    f 0 + f 1 + f 2 + f 3 + f 4 + f 5 + f 6 + f 7 + f 8 + f 9 + f 10 + f 11 + f 12 + f 13 + f 14 + f 15
      = ∑ r : Fin 16, f r := by
  simp only [Fin.sum_univ_castSucc, Fin.sum_univ_zero, zero_add]
  rfl

end Cert.TiledSums
-- ==== Proof.Block.lean ====
/-
  One grid step of the kernel: the block of 16 by 2048 boxes it reads, the row of partial losses and the histogram it
  writes, as sums over the block's boxes.
-/
module

public import proofs.«01_k».proof.Proof.Gen.KernelIdeal.Frame
public import proofs.«01_k».proof.Proof.Density
public import proofs.«01_k».proof.Proof.Sums
public import Idealize.ShloMosaic.Lib.Pipeline.ValueKit

@[expose] public section

set_option maxRecDepth 16384

noncomputable section

namespace Cert.KernelIdeal.RefValue

open Idealize.ShloMosaic Idealize.ShloMosaic.TcCoe Idealize.SL.Sem Cert.KernelIdeal Cert.KernelIdeal.Gen Cert.BoxLoss

/-- The loss of two boxes given by their four components, with the arctangent's polynomial at the tangent of the
    difference of the aspect angles, the heights raised to the tiny floor before they divide. -/
def boxLoss (p q : Fin 4 → EReal) : EReal :=
  loss (atanPoly (tanDiff (Ideal.div (p 2) (max (p 3) tiny)) (Ideal.div (q 2) (max (q 3) tiny))))
    (p 0) (p 1) (p 2) (p 3) (q 0) (q 1) (q 2) (q 3)

set_option maxHeartbeats 4000000 in
/-- The row of partial losses: in each lane the sum of the losses of the block's sixteen boxes there. -/
theorem row (x0 x1 : Vec Ideal S4x16x2048 .f32) (y : S1x1x2048.Idx) :
    out0_3 (F := Ideal) x0 x1 y
      = ∑ r : Fin 16, boxLoss (fun k => x0 (ix3 k r (y 2))) (fun k => x1 (ix3 k r (y 2))) := by
  rw [← TiledSums.sum_halves]
  unfold out0_3
  frame_out
  unfold_payloads
  pointwise
  refine congrArg₂ _ (Finset.sum_congr rfl fun k _ => ?_) (Finset.sum_congr rfl fun k _ => ?_)
  · rfl
  · rfl

set_option maxHeartbeats 4000000 in
/-- The block's histogram: in each cell the number of the block's target boxes whose centre falls there. -/
theorem hist (x0 x1 : Vec Ideal S4x16x2048 .f32) (y : S1x32x32.Idx) :
    out0_2 (F := Ideal) x0 x1 y
      = ∑ r : Fin 16, ∑ l : Fin 2048, hit (x1 (ix3 0 r l)) (x1 (ix3 1 r l)) (y 1) (y 2) := by
  refine Eq.trans ?_ (Finset.sum_congr rfl fun r _ => Finset.sum_congr rfl fun l _ => select_hit _ _ _ _)
  rw [← TiledSums.sum_rows]
  unfold out0_2
  frame_out
  unfold_payloads
  pointwise
  rfl

end Cert.KernelIdeal.RefValue
-- ==== Proof.Arrays.lean ====
/-
  What the kernel's launch finds and leaves: the two inputs as it transposes and fills them, and the two outputs, block
  by block, as sums over the boxes of the block.
-/
module

public import proofs.«01_k».proof.Proof.Block
public import Idealize.ShloMosaic.Lib.StableHlo.ReadAt

@[expose] public section

set_option maxRecDepth 16384

noncomputable section

namespace Cert.KernelIdeal.RefValue

open Idealize.ShloMosaic Idealize.ShloMosaic.TcCoe Idealize.SL.Sem Cert.KernelIdeal Cert.KernelIdeal.Gen Cert.BoxLoss

variable (m : (ℓ : Loc nD τ sig) → Buf (Elt Ideal) ℓ)

/-- Component `k` of box number `b`; past the last box stands a box whose components are all one half. -/
def padded (x : Vec Ideal S4000000x4 .f32) (b : ℕ) (k : Fin 4) : EReal :=
  if h : b < 4000000 then x (ix2 ⟨b, h⟩ k) else num 0x3F000000#32

/-- The predicted boxes, as the program was given them. -/
abbrev pred (c : Dev nD) : Vec Ideal S4000000x4 .f32 := m (c, Proc.devRef .tc main_arg0)

/-- The target boxes, as the program was given them. -/
abbrev target (c : Dev nD) : Vec Ideal S4000000x4 .f32 := m (c, Proc.devRef .tc main_arg1)

/-- The first array the launch reads: box `q * 2048 + l` of the predictions stands in row `q` and lane `l`. -/
theorem input_pred (c : Dev nD) (k : Fin 4) (q : Fin 1968) (l : Fin 2048) :
    (V m c main_v2 : Vec Ideal S4x1968x2048 .f32) (ix3 k q l) = padded (pred m c) (q * 2048 + l) k := by
  unfold_abbrev_sides
  after_reads_at
  rfl

/-- The second array the launch reads: the same of the targets. -/
theorem input_target (c : Dev nD) (k : Fin 4) (q : Fin 1968) (l : Fin 2048) :
    (V m c main_v5 : Vec Ideal S4x1968x2048 .f32) (ix3 k q l) = padded (target m c) (q * 2048 + l) k := by
  unfold_abbrev_sides
  after_reads_at
  rfl

/-- The blocks of the two inputs follow one another along the rows. -/
theorem index_in : ∀ t : Fin grid0.N, win0_0.index t = ![0, t.val, 0] ∧ win0_1.index t = ![0, t.val, 0] := by
  decide +kernel

/-- The blocks of the two outputs follow one another along the first axis. -/
theorem index_out : ∀ t : Fin grid0.N, win0_2.index t = ![t.val, 0, 0] ∧ win0_3.index t = ![t.val, 0, 0] := by
  decide +kernel

/-- The rows of a block lie inside the array. -/
theorem row_lt (t : Fin cfg0.N) (y : S4x16x2048.Idx) : 16 * t.val + (y 1).val < 1968 := by
  have ht : t.val < 123 := t.isLt
  have hy : (y 1).val < 16 := (y 1).isLt
  omega

/-- Row `r` of the block of the first input at step `t` is row `16 t + r` of the array. -/
theorem read_pred (X : Vec Ideal S4x1968x2048 .f32) (t : Fin cfg0.N) (y : S4x16x2048.Idx) :
    (((cfg0.win 0).blk t).view.read (Elt Ideal) X : Vec Ideal S4x16x2048 .f32) y
      = X (ix3 (y 0) ⟨16 * t.val + (y 1).val, row_lt t y⟩ (y 2)) := by
  have h : (win0_0.blk t).view.emb y = (ix3 (y 0) ⟨16 * t.val + (y 1).val, row_lt t y⟩ (y 2) : S4x1968x2048.Idx) := by
    blk_ext [(index_in t).1]
  exact congrArg X h

/-- The same of the second input. -/
theorem read_target (X : Vec Ideal S4x1968x2048 .f32) (t : Fin cfg0.N) (y : S4x16x2048.Idx) :
    (((cfg0.win 1).blk t).view.read (Elt Ideal) X : Vec Ideal S4x16x2048 .f32) y
      = X (ix3 (y 0) ⟨16 * t.val + (y 1).val, row_lt t y⟩ (y 2)) := by
  have h : (win0_1.blk t).view.emb y = (ix3 (y 0) ⟨16 * t.val + (y 1).val, row_lt t y⟩ (y 2) : S4x1968x2048.Idx) := by
    blk_ext [(index_in t).2]
  exact congrArg X h

/-- The block of predictions that step `t` finds, read off the array. -/
theorem iblk_pred (c : Dev nD) (t : Fin cfg0.N) :
    (iblk m c 0 t : Vec Ideal S4x16x2048 .f32)
      = (((cfg0.win 0).blk t).view.read (Elt Ideal) (V m c main_v2) : Vec Ideal S4x16x2048 .f32) := by
  unfold iblk
  rfl

/-- The block of targets that step `t` finds, read off the array. -/
theorem iblk_target (c : Dev nD) (t : Fin cfg0.N) :
    (iblk m c 1 t : Vec Ideal S4x16x2048 .f32)
      = (((cfg0.win 1).blk t).view.read (Elt Ideal) (V m c main_v5) : Vec Ideal S4x16x2048 .f32) := by
  unfold iblk
  rfl

/-- Component `k` of the prediction in row `r` and lane `l` of step `t`'s block. -/
theorem block_pred (c : Dev nD) (t : Fin cfg0.N) (y : S4x16x2048.Idx) :
    (iblk m c 0 t : Vec Ideal S4x16x2048 .f32) y
      = padded (pred m c) ((16 * t.val + (y 1).val) * 2048 + (y 2).val) (y 0) := by
  rw [iblk_pred, read_pred _ t y]
  exact input_pred m c (y 0) ⟨16 * t.val + (y 1).val, row_lt t y⟩ (y 2)

/-- Component `k` of the target in row `r` and lane `l` of step `t`'s block. -/
theorem block_target (c : Dev nD) (t : Fin cfg0.N) (y : S4x16x2048.Idx) :
    (iblk m c 1 t : Vec Ideal S4x16x2048 .f32) y
      = padded (target m c) ((16 * t.val + (y 1).val) * 2048 + (y 2).val) (y 0) := by
  rw [iblk_target, read_target _ t y]
  exact input_target m c (y 0) ⟨16 * t.val + (y 1).val, row_lt t y⟩ (y 2)

/-- The loss of box `b` under the kernel's arctangent. -/
abbrev lossAt (c : Dev nD) (b : ℕ) : EReal := boxLoss (padded (pred m c) b) (padded (target m c) b)

/-- Whether target `b` has its centre in row `i` and column `j` of the map. -/
abbrev hitAt (c : Dev nD) (i j : Fin 32) (b : ℕ) : EReal := hit (padded (target m c) b 0) (padded (target m c) b 1) i j

/-- Lane `l` of block `t` of the partial losses: the sum over the block's rows. -/
def lossRows (c : Dev nD) : Vec Ideal S123x1x2048 .f32 := fun y =>
  ∑ r : Fin 16, lossAt m c ((16 * (y 0).val + r.val) * 2048 + (y 2).val)

/-- Block `t` of the histograms: the counts of the block's own boxes. -/
def cellCounts (c : Dev nD) : Vec Ideal S123x32x32 .f32 := fun y =>
  ∑ r : Fin 16, ∑ l : Fin 2048, hitAt m c (y 1) (y 2) ((16 * (y 0).val + r.val) * 2048 + l.val)

/-- The row that step `t` computes from the blocks it finds. -/
theorem row_step (c : Dev nD) (t : Fin cfg0.N) (y : S1x1x2048.Idx) :
    out0_3 (F := Ideal) (iblk m c 0 t) (iblk m c 1 t) y
      = ∑ r : Fin 16, lossAt m c ((16 * t.val + r.val) * 2048 + (y 2).val) := by
  rw [row]
  refine Finset.sum_congr rfl fun r _ => congrArg₂ boxLoss (funext fun k => ?_) (funext fun k => ?_)
  · exact block_pred m c t (ix3 k r (y 2))
  · exact block_target m c t (ix3 k r (y 2))

/-- The histogram that step `t` computes from the blocks it finds. -/
theorem hist_step (c : Dev nD) (t : Fin cfg0.N) (y : S1x32x32.Idx) :
    out0_2 (F := Ideal) (iblk m c 0 t) (iblk m c 1 t) y
      = ∑ r : Fin 16, ∑ l : Fin 2048, hitAt m c (y 1) (y 2) ((16 * t.val + r.val) * 2048 + l.val) := by
  rw [hist]
  refine Finset.sum_congr rfl fun r _ => Finset.sum_congr rfl fun l _ => ?_
  exact congrArg₂ (fun u v => hit u v (y 1) (y 2)) (block_target m c t (ix3 0 r l)) (block_target m c t (ix3 1 r l))

/-- The partial losses that the launch leaves. -/
theorem losses (c : Dev nD) : (dats m 0 c).arrAt 3 cfg0.N = lossRows m c := by
  refine (dats m 0 c).arrAt_eq_of_covers 3 _ (by decide +kernel) fun t hf y => ?_
  have h : (win0_3.blk t).view.emb y = (ix3 ⟨t.val, t.isLt⟩ 0 (y 2) : S123x1x2048.Idx) := by
    blk_ext [(index_out t).2]
  blk_simp
  rw [after0_3]
  exact (row_step m c t y).trans (congrArg (lossRows m c) h).symm

/-- The histograms that the launch leaves. -/
theorem counts (c : Dev nD) : (dats m 0 c).arrAt 2 cfg0.N = cellCounts m c := by
  refine (dats m 0 c).arrAt_eq_of_covers 2 _ (by decide +kernel) fun t hf y => ?_
  have h : (win0_2.blk t).view.emb y = (ix3 ⟨t.val, t.isLt⟩ (y 1) (y 2) : S123x32x32.Idx) := by
    blk_ext [(index_out t).1]
  blk_simp
  rw [after0_2]
  exact (hist_step m c t y).trans (congrArg (cellCounts m c) h).symm

end Cert.KernelIdeal.RefValue
-- ==== Proof.Tail.lean ====
/-
  The host's operations after the launch: the histograms summed, the filling boxes' count taken out of their cell, the
  map normalised and averaged, the losses summed and averaged, and the two means multiplied.
-/
module

public import proofs.«01_k».proof.Proof.Arrays
public import Idealize.ShloMosaic.Lib.Routing.OpsPair

@[expose] public section

set_option maxRecDepth 16384

noncomputable section

namespace Cert.KernelIdeal.RefValue

open Idealize.ShloMosaic Idealize.ShloMosaic.TcCoe Idealize.SL.Sem Cert.KernelIdeal Cert.KernelIdeal.Gen Cert.BoxLoss

/-- The one update at the index words (16, 16) lands in row 16 and column 16. -/
theorem lands_fill (k : S_.Idx) (i j : Fin 32) :
    scatter_S32x32_S2_S__n_01_01_0.resultIdx? k (fun _ => 16#32) = some (ix2 i j) ↔ i = 16 ∧ j = 16 := by
  refine (Routing.resultIdx?_ix2 _ k _ i j).trans ?_
  have e : ∀ a : Fin 2, scatter_S32x32_S2_S__n_01_01_0.start k (fun _ => 16#32) a = 16 := by
    intro a
    fin_cases a <;> rfl
  have e' : ∀ a : Fin 2, scatter_S32x32_S2_S__n_01_01_0.window k a = 0 := by
    intro a
    fin_cases a <;> rfl
  rw [show _ = _ from e 0, show _ = _ from e' 0, show _ = _ from e 1, show _ = _ from e' 1, Fin.ext_iff, Fin.ext_iff]
  norm_num
  omega

/-- Adding the number `v` at the one position (16, 16) of a map changes that entry alone. -/
theorem add_fill (x : Vec Ideal S32x32 .f32) (v : Vec Ideal S_ .f32) (i j : Fin 32) :
    (Host.scatter scatter_S32x32_S2_S__n_01_01_0 (FloatOps.addf (F := Ideal) (φ := .f32)) x (fun _ => 16#32) v :
        Vec Ideal S32x32 .f32) (ix2 i j)
      = (x (ix2 i j) + if i = 16 ∧ j = 16 then v ix0 else 0 : EReal) := by
  rw [Routing.scatter_at]
  have hn : List.finRange S_.numel = [⟨0, by decide⟩] := by decide
  rw [hn, List.foldl_cons, List.foldl_nil]
  simp only [lands_fill]
  by_cases h : i = 16 ∧ j = 16
  · rw [if_pos h, if_pos h]
    exact congrArg (fun u => x (ix2 i j) + v u) (funext fun a => a.elim0)
  · rw [if_neg h, if_neg h]
    exact (add_zero (x (ix2 i j) : EReal)).symm

/-- The result, from the two arrays that the launch leaves: the losses' sum and the counts go through the last step of
    the loss, the counts without the filling boxes. -/
theorem tail_value (W : Valuation τ sig (Elt Ideal)) (A : Vec Ideal S123x32x32 .f32) (B : Vec Ideal S123x1x2048 .f32)
    (hA : W (Proc.devRef .tc main_v6_0) = A) (hB : W (Proc.devRef .tc main_v6_1) = B) (i : S_.Idx) :
    (StableHlo.after hostOps1 W (Proc.devRef .tc main_v23) : Vec Ideal S_ .f32) i
      = finish (fun i j => (∑ t : Fin 123, A (ix3 t i j)) + if i = 16 ∧ j = 16 then num 0xC6EE0000#32 else 0)
          (∑ t : Fin 123, ∑ l : Fin 2048, B (ix3 t 0 l)) := by
  unfold_abbrev_sides
  after_reads_simp
  clean_types
  rw [hA, hB]
  generalize hI : concatenate S2 0 _ _ = I
  have h16 : I = fun _ => 16#32 := by
    rw [← hI]
    funext i
    after_reads_at
    split <;> rfl
  rw [h16]
  clear hI h16 hA hB
  generalize hC : Host.scatter scatter_S32x32_S2_S__n_01_01_0 _ _ _ _ = C
  have hc : ∀ i j, C (ix2 i j)
      = (∑ t : Fin 123, A (ix3 t i j)) + if i = 16 ∧ j = 16 then num 0xC6EE0000#32 else 0 := by
    intro i j
    rw [← hC]
    refine (add_fill _ _ i j).trans ?_
    pointwise
  clear hC
  pointwise
  simp only [hc]
  unfold finish
  refine congrArg (fun u => Ideal.div u _ * _) (Finset.sum_congr rfl fun t _ => ?_)
  exact Fin.sum_univ_one _

/-- The box whose components are all one half, with which the arrays are filled. -/
abbrev halfBox : Fin 4 → EReal := fun _ => num 0x3F000000#32

variable (m : (ℓ : Loc nD τ sig) → Buf (Elt Ideal) ℓ)

/-- Past the last box stands the filling box. -/
theorem padded_fill (x : Vec Ideal S4000000x4 .f32) (b : ℕ) : padded x (4000000 + b) = halfBox := by
  funext k
  exact dif_neg (by omega)

/-- The partial losses add up to the losses of the boxes and of the filling boxes. -/
theorem sum_losses (c : Dev nD) :
    ∑ t : Fin 123, ∑ l : Fin 2048, lossRows m c (ix3 t 0 l)
      = ∑ b : Fin 4000000, lossAt m c b + ∑ _b : Fin 30464, boxLoss halfBox halfBox := by
  have h := TiledSums.sum_blocks (lossAt m c)
  simp only [lossAt, padded_fill] at h
  rw [← h]
  exact Finset.sum_congr rfl fun t _ => Finset.sum_comm

/-- The counts of a cell add up, the filling boxes taken out, to the boxes whose centres fall in it. -/
theorem sum_counts (c : Dev nD) (i j : Fin 32) :
    (∑ t : Fin 123, cellCounts m c (ix3 t i j)) + (if i = 16 ∧ j = 16 then num 0xC6EE0000#32 else 0)
      = ∑ b : Fin 4000000, hitAt m c i j b := by
  have h := TiledSums.sum_blocks (hitAt m c i j)
  simp only [hitAt, padded_fill] at h
  refine (congrArg (· + _) h).trans ?_
  rw [add_assoc, fill_count, add_zero]

/-- The kernel's result: the last step of the loss on the boxes' counts and on the total of their losses and of the
    filling boxes'. -/
theorem result (c : Dev nD) (i : S_.Idx) :
    (Pipeline.afterTail₀ cfgs (dats m) 0 (V0 m) [hostOps1] c main_v23 : Vec Ideal S_ .f32) i
      = finish (fun i j => ∑ b : Fin 4000000, hitAt m c i j b)
          (∑ b : Fin 4000000, lossAt m c b + ∑ _b : Fin 30464, boxLoss halfBox halfBox) := by
  have hA : Pipeline.withArrays (cfgs 0).spec c (V0 m c) (fun w => (dats m 0 c).arrAt w (cfgs 0).N)
      (Proc.devRef .tc main_v6_0) = cellCounts m c :=
    (Pipeline.withArrays_arr spec0 (by decide) c (V0 m c) _ 2).trans (counts m c)
  have hB : Pipeline.withArrays (cfgs 0).spec c (V0 m c) (fun w => (dats m 0 c).arrAt w (cfgs 0).N)
      (Proc.devRef .tc main_v6_1) = lossRows m c :=
    (Pipeline.withArrays_arr spec0 (by decide) c (V0 m c) _ 3).trans (losses m c)
  have hc : (fun i j => (∑ t : Fin 123, cellCounts m c (ix3 t i j)) + if i = 16 ∧ j = 16 then num 0xC6EE0000#32 else 0)
      = fun i j => ∑ b : Fin 4000000, hitAt m c i j b := funext fun i => funext fun j => sum_counts m c i j
  rw [← hc, ← sum_losses]
  exact tail_value (Pipeline.withArrays (cfgs 0).spec c (V0 m c) fun w => (dats m 0 c).arrAt w (cfgs 0).N)
    (cellCounts m c) (lossRows m c) hA hB i

end Cert.KernelIdeal.RefValue
-- ==== Proof.RefTerm.lean ====
/-
  The reference's loss of one box, read off its operations: the power spelling of the loss, for a box of the arguments
  and for the filling box.
-/
module

public import proofs.«01_k».proof.Proof.Gen.ReferenceIdeal.Read
public import proofs.«01_k».proof.Proof.Density
public import Idealize.ShloMosaic.Lib.Pipeline.ValueKit

@[expose] public section

set_option maxRecDepth 16384

noncomputable section

namespace Cert.ReferenceIdeal.RefValue

open Idealize.ShloMosaic Idealize.ShloMosaic.TcCoe Idealize.SL.Sem Cert.ReferenceIdeal Cert.ReferenceIdeal.Gen
  Cert.ReferenceIdeal.Read Cert.BoxLoss

/-- The reference's loss of two boxes given by their four components. -/
def refLoss (p q : Fin 4 → EReal) : EReal :=
  lossPow (atanPoly (tanDiff (Ideal.div (p 2) (p 3)) (Ideal.div (q 2) (q 3))))
    (p 0) (p 1) (p 2) (p 3) (q 0) (q 1) (q 2) (q 3)

/-- The same with the operations in the order in which they are printed. -/
theorem refLoss_printed (p q : Fin 4 → EReal) (t : EReal)
    (h : t = tanDiff (Ideal.div (p 2) (p 3)) (Ideal.div (q 2) (q 3))) :
    refLoss p q = lossPow (Scalar.select (Ideal.cmp .ogt t 1)
      (num 0x3FC90FDB#32 - oddPoly (min t (Ideal.div 1 t))) (oddPoly (min t (Ideal.div 1 t))))
      (p 0) (p 1) (p 2) (p 3) (q 0) (q 1) (q 2) (q 3) := by
  rw [← atanPoly_select, h]
  rfl

variable (x0 x1 : (⟨S4000000x4, .f32⟩ : BufTy).Contents (Elt Ideal))

/-- The four components of box `b`, as the reference slices them. -/
abbrev sliced (x : (⟨S4000000x4, .f32⟩ : BufTy).Contents (Elt Ideal)) (i : S4000000.Idx) : Fin 4 → EReal :=
  ![val_main_v2 (F := Ideal) x i, val_main_v4 (F := Ideal) x i, val_main_v6 (F := Ideal) x i, val_main_v8 (F := Ideal) x i]

/-- Slicing keeps the components. -/
theorem sliced_eq (x : (⟨S4000000x4, .f32⟩ : BufTy).Contents (Elt Ideal)) (b : Fin 4000000) :
    sliced x (ix1 b) = fun k => x (ix2 b k) := by
  funext k
  fin_cases k
  · show val_main_v2 (F := Ideal) x (ix1 b) = x (ix2 b 0)
    unfold val_main_v2 val_main_v1; pointwise
  · show val_main_v4 (F := Ideal) x (ix1 b) = x (ix2 b 1)
    unfold val_main_v4 val_main_v3; pointwise
  · show val_main_v6 (F := Ideal) x (ix1 b) = x (ix2 b 2)
    unfold val_main_v6 val_main_v5; pointwise
  · show val_main_v8 (F := Ideal) x (ix1 b) = x (ix2 b 3)
    unfold val_main_v8 val_main_v7; pointwise

/-- The loss that the reference computes at index `i`, over the sliced components. -/
theorem box_sliced (i : S4000000.Idx) :
    val_main_v147 (F := Ideal) x0 x1 i = refLoss (sliced x0 i) (sliced x1 i) := by
  rw [refLoss_printed _ _ (val_main_v86 (F := Ideal) x0 x1 i) (by unfold tanDiff; rw [← Ideal.ofBits_one_f32]; rfl)]
  unfold lossPow iou oddPoly gap
  simp only [overlap_zero_first]
  rw [← Ideal.ofBits_one_f32, ← Ideal.ofBits_zero_f32]
  rfl

/-- The loss that the reference computes for box `b`. -/
theorem box_loss (b : Fin 4000000) :
    val_main_v147 (F := Ideal) x0 x1 (ix1 b) = refLoss (fun k => x0 (ix2 b k)) (fun k => x1 (ix2 b k)) := by
  rw [box_sliced, sliced_eq, sliced_eq]

/-- The four components of filling box `i`, as the reference slices them. -/
abbrev slicedFill (i : S30464.Idx) : Fin 4 → EReal :=
  ![val_main_v150 (F := Ideal) i, val_main_v152 (F := Ideal) i, val_main_v154 (F := Ideal) i, val_main_v156 (F := Ideal) i]

/-- Every component of a filling box is one half. -/
theorem slicedFill_eq (i : S30464.Idx) : slicedFill i = fun _ => num 0x3F000000#32 := by
  funext k
  fin_cases k <;> rfl

/-- The loss that the reference computes for a filling box. -/
theorem fill_loss (i : S30464.Idx) :
    val_main_v295 (F := Ideal) i = refLoss (fun _ => num 0x3F000000#32) (fun _ => num 0x3F000000#32) := by
  rw [← slicedFill_eq i,
    refLoss_printed _ _ (val_main_v234 (F := Ideal) i) (by unfold tanDiff; rw [← Ideal.ofBits_one_f32]; rfl)]
  unfold lossPow iou oddPoly gap
  simp only [overlap_zero_first]
  rw [← Ideal.ofBits_one_f32, ← Ideal.ofBits_zero_f32]
  rfl

end Cert.ReferenceIdeal.RefValue
-- ==== Proof.RefValue.lean ====
/-
  The reference's result: the total of the losses, the density map as counts of boxes per cell, and the last step of the
  loss on the two.
-/
module

public import proofs.«01_k».proof.Proof.RefTerm
public import Idealize.ShloMosaic.Lib.Routing.OpsPair

@[expose] public section

set_option maxRecDepth 16384

noncomputable section

namespace Cert.ReferenceIdeal.RefValue

open Idealize.ShloMosaic Idealize.ShloMosaic.TcCoe Idealize.SL.Sem Cert.ReferenceIdeal Cert.ReferenceIdeal.Gen
  Cert.ReferenceIdeal.Read Cert.BoxLoss

variable (x0 x1 : (⟨S4000000x4, .f32⟩ : BufTy).Contents (Elt Ideal))

/-- The total of the losses: over the boxes of the arguments, and over the filling boxes. -/
theorem total (i : S_.Idx) :
    val_main_v297 (F := Ideal) x0 x1 i
      = ∑ b : Fin 4000000, refLoss (fun k => x0 (ix2 b k)) (fun k => x1 (ix2 b k))
        + ∑ _b : Fin 30464, refLoss (fun _ => num 0x3F000000#32) (fun _ => num 0x3F000000#32) := by
  rw [val_main_v297_apply, val_main_v148_apply, val_main_v296_apply, sum_idx1, sum_idx1]
  simp only [box_loss, fill_loss]
  rw [show val_main_cst_32 (F := Ideal) (Shape.Idx.first h_S_) = (0 : EReal) from Ideal.ofBits_zero_f32,
    show val_main_cst_65 (F := Ideal) (Shape.Idx.first h_S_) = (0 : EReal) from Ideal.ofBits_zero_f32, zero_add, zero_add]
  rfl

/-- Update `b` of the map starts at the pair of index words in row `b`, read signed. -/
theorem start_row (idx : IVec S4000000x2 32) (b : Fin 4000000) :
    scatter_S32x32_S4000000x2_S4000000_n_01_01_1.start (ix1 b) idx 0 = (idx (ix2 b 0)).toInt := by
  refine congrArg (fun u => (idx u).toInt) (funext fun a => ?_)
  fin_cases a <;> rfl

/-- The same for the second word. -/
theorem start_column (idx : IVec S4000000x2 32) (b : Fin 4000000) :
    scatter_S32x32_S4000000x2_S4000000_n_01_01_1.start (ix1 b) idx 1 = (idx (ix2 b 1)).toInt := by
  refine congrArg (fun u => (idx u).toInt) (funext fun a => ?_)
  fin_cases a <;> rfl

/-- An update of the map is one entry: it has no window. -/
theorem window_zero (b : Fin 4000000) (a : Fin 2) :
    scatter_S32x32_S4000000x2_S4000000_n_01_01_1.window (ix1 b) a = 0 := by
  fin_cases a <;> rfl

/-- The wrap of negative index words leaves a cell as it is. -/
theorem wrap_cell (v : EReal) :
    Scalar.select (IntOp.cmpi .slt (cell v) 0#32) (cell v + 32#32) (cell v) = cell v :=
  Routing.wrap_of_lt _ _ (lt_trans (cell_lt v) (by norm_num))

/-- The first index word of box `b` is the cell of its second coordinate. -/
theorem word_row (b : Fin 4000000) : val_main_v323 (F := Ideal) x1 (ix2 b 0) = cell (x1 (ix2 b 1)) := by
  have h : val_main_v323 (F := Ideal) x1 (ix2 b 0) = val_main_v315 (F := Ideal) x1 (ix1 b) := by
    unfold val_main_v323 val_main_v321
    pointwise
  refine h.trans ((wrap_cell (sliced x1 (ix1 b) 1)).trans ?_)
  rw [sliced_eq]

/-- The second index word of box `b` is the cell of its first coordinate. -/
theorem word_column (b : Fin 4000000) : val_main_v323 (F := Ideal) x1 (ix2 b 1) = cell (x1 (ix2 b 0)) := by
  have h : val_main_v323 (F := Ideal) x1 (ix2 b 1) = val_main_v320 (F := Ideal) x1 (ix1 b) := by
    unfold val_main_v323 val_main_v322
    pointwise
  refine h.trans ((wrap_cell (sliced x1 (ix1 b) 0)).trans ?_)
  rw [sliced_eq]

/-- A cell's word read signed. -/
theorem cell_toInt (v : EReal) : (cell v).toInt = (cell v).toNat :=
  BitVec.toInt_eq_toNat_of_lt (by have := cell_lt v; omega)

/-- Box `b` counts in row `i` and column `j` of the map exactly when its centre falls there. -/
theorem lands (b : Fin 4000000) (i j : Fin 32) :
    scatter_S32x32_S4000000x2_S4000000_n_01_01_1.resultIdx? (ix1 b) (val_main_v323 (F := Ideal) x1) = some (ix2 i j)
      ↔ (cell (x1 (ix2 b 1))).toNat = i ∧ (cell (x1 (ix2 b 0))).toNat = j := by
  refine (Routing.resultIdx?_ix2 _ (ix1 b) _ i j).trans ?_
  rw [show _ = _ from start_row _ b, show _ = _ from start_column _ b, show _ = _ from window_zero b 0,
    show _ = _ from window_zero b 1, word_row, word_column, cell_toInt, cell_toInt]
  norm_cast

/-- An accumulating scatter of one update per box, read at an entry: the entry before and the updates that land there. -/
theorem scatterAdd_at (x : FVec Ideal S32x32 .f32) (idx : IVec S4000000x2 32) (v : FVec Ideal S4000000 .f32) (y : S32x32.Idx) :
    Host.scatterAdd scatter_S32x32_S4000000x2_S4000000_n_01_01_1 x idx v y
      = (x y + ∑ b : Fin 4000000,
          if scatter_S32x32_S4000000x2_S4000000_n_01_01_1.resultIdx? (ix1 b) idx = some y then v (ix1 b) else 0 : EReal) := by
  simp only [Host.scatterAdd, Ideal.hostScatterAdd_def, Ideal.hostScatterAdd]
  rw [Finset.sum_filter, sum_idx1]

/-- The map counts, in each cell, the boxes whose centres fall there. -/
theorem map_counts (i j : Fin 32) :
    val_main_v325 (F := Ideal) x1 (ix2 i j) = ∑ b : Fin 4000000, hit (x1 (ix2 b 0)) (x1 (ix2 b 1)) i j := by
  have h0 : val_main_v310 (F := Ideal) (ix2 i j) = (0 : EReal) := Ideal.ofBits_zero_f32
  have h1 : ∀ b : Fin 4000000, val_main_v324 (F := Ideal) (ix1 b) = (1 : EReal) := fun b => Ideal.ofBits_one_f32
  unfold val_main_v325
  rw [scatterAdd_at, h0, zero_add]
  refine Finset.sum_congr rfl fun b _ => ?_
  rw [h1 b]
  unfold hit
  exact if_congr (lands x1 b i j) rfl rfl

/-- The printed operations of the last step, on any map and any total. -/
theorem finish_ops (C : FVec Ideal S32x32 .f32) (T : FVec Ideal S_ .f32) (i : S_.Idx) :
    mulf (Host.divf T (constant S_ .f32 0x4A742400#32))
      (Host.divf (Host.reduceAdd (addf (broadcastInDim S32x32 ![] bcast_S_S32x32 (constant S_ .f32 0x3F800000#32))
          (mulf (broadcastInDim S32x32 ![] bcast_S_S32x32 (constant S_ .f32 0x3FC00000#32))
            (Host.divf C (broadcastInDim S32x32 ![] bcast_S_S32x32
              (Host.reduce FloatOps.maximumf C (constant S_ .f32 0xFF800000#32) reducesTo_S32x32_S_d0_1 h_S_)))))
        (constant S_ .f32 0x00000000#32) reducesTo_S32x32_S_d0_1 h_S_) (constant S_ .f32 0x44800000#32)) i
      = finish (fun i j => C (ix2 i j)) (T i) := by
  unfold finish
  pointwise

/-- The operations that follow the map and the total are the last step of the loss. -/
theorem finish_read (i : S_.Idx) :
    val_main_v336 (F := Ideal) x0 x1 i
      = finish (fun i j => val_main_v325 (F := Ideal) x1 (ix2 i j)) (val_main_v297 (F := Ideal) x0 x1 i) :=
  finish_ops (val_main_v325 (F := Ideal) x1) (val_main_v297 (F := Ideal) x0 x1) i

/-- The reference's result: the last step of the loss on the counts and the total. -/
theorem result (i : S_.Idx) :
    val_main_v336 (F := Ideal) x0 x1 i
      = finish (fun i j => ∑ b : Fin 4000000, hit (x1 (ix2 b 0)) (x1 (ix2 b 1)) i j)
          (∑ b : Fin 4000000, refLoss (fun k => x0 (ix2 b k)) (fun k => x1 (ix2 b k))
            + ∑ _b : Fin 30464, refLoss (fun _ => num 0x3F000000#32) (fun _ => num 0x3F000000#32)) := by
  have h : (fun i j => val_main_v325 (F := Ideal) x1 (ix2 i j))
      = fun i j : Fin 32 => ∑ b : Fin 4000000, hit (x1 (ix2 b 0)) (x1 (ix2 b 1)) i j :=
    funext fun i => funext fun j => map_counts x1 i j
  rw [finish_read, h, total]

end Cert.ReferenceIdeal.RefValue
-- ==== Proof.Pre.lean ====
/-
  The precondition read at a box: both heights are at least the tiny floor, and the target's width is not negative.
-/
module

public import proofs.«01_k».proof.Proof.Gen.Pre_sizes_positive
public import proofs.«01_k».proof.Proof.Loss
public import Idealize.ShloMosaic.Lib.Pipeline.ValueKit

@[expose] public section

set_option maxRecDepth 16384

noncomputable section

namespace Cert.Pre_sizes_positive

open Idealize.ShloMosaic Cert.BoxLoss

attribute [local instance] Cert.Pre_sizes_positive.Gen.facts

/-- Three bits joined by `and` are one only if each of the three comparisons holds. -/
theorem three_bits {p q r : Prop} [Decidable p] [Decidable q] [Decidable r]
    (h : IntOp.andi (IntOp.andi (BitVec.ofBool (decide p)) (BitVec.ofBool (decide q))) (BitVec.ofBool (decide r)) = 1#1) :
    p ∧ q ∧ r := by
  by_cases hp : p <;> by_cases hq : q <;> by_cases hr : r <;> simp [hp, hq, hr, IntOp.andi] at h ⊢

/-- The precondition at box `b`. -/
theorem read (x0 x1 : FVec Ideal S4000000x4 .f32) (h : fn (F := Ideal) x0 x1 = fun _ => 1#1) (b : Fin 4000000) :
    tiny ≤ x0 (ix2 b 3) ∧ tiny ≤ x1 (ix2 b 3) ∧ (0 : EReal) ≤ x1 (ix2 b 2) := by
  have hb := congrFun h (ix1 b)
  unfold fn at hb
  pointwise at hb
  exact three_bits hb

end Cert.Pre_sizes_positive
-- ==== Proof.Value.lean ====
/-
  The kernel's result is the reference's: box by box the two losses agree where the heights reach the floor and the
  target's width is not negative, and the rest of the two programs is the same function of the losses and the counts.
-/
module

public import proofs.«01_k».proof.Proof.Tail
public import proofs.«01_k».proof.Proof.RefValue
public import proofs.«01_k».proof.Proof.Pre

@[expose] public section

set_option maxRecDepth 16384

noncomputable section

namespace Cert.Value

open Idealize.ShloMosaic Idealize.ShloMosaic.TcCoe Idealize.SL.Sem Cert.BoxLoss

attribute [local instance] Cert.Pre_sizes_positive.Gen.facts

/-- The kernel's loss of two boxes is the reference's, where the heights reach the floor and the target's width is not
    negative. -/
theorem loss_agree (p q : Fin 4 → EReal) (hp : tiny ≤ p 3) (hq : tiny ≤ q 3) (hw : 0 ≤ q 2) :
    KernelIdeal.RefValue.boxLoss p q = ReferenceIdeal.RefValue.refLoss p q := by
  unfold KernelIdeal.RefValue.boxLoss ReferenceIdeal.RefValue.refLoss
  rw [max_eq_left hp, max_eq_left hq, lossPow_eq _ _ _ _ _ _ _ _ _ hw (tiny_pos.le.trans hq)]

/-- The two losses agree on the filling box. -/
theorem loss_agree_fill :
    KernelIdeal.RefValue.boxLoss KernelIdeal.RefValue.halfBox KernelIdeal.RefValue.halfBox
      = ReferenceIdeal.RefValue.refLoss (fun _ => num 0x3F000000#32) (fun _ => num 0x3F000000#32) :=
  loss_agree _ _ tiny_le_half tiny_le_half (tiny_pos.le.trans tiny_le_half)

/-- Box `b` of the filled array is box `b` of the argument. -/
theorem padded_box (x : Vec Ideal KernelIdeal.S4000000x4 .f32) (b : Fin 4000000) :
    KernelIdeal.RefValue.padded x b = fun k => x (ix2 b k) := by
  funext k
  exact dif_pos b.isLt

/-- The kernel's loss of box `b` is that of box `b` of the arguments. -/
theorem loss_read (m : (ℓ : Loc KernelIdeal.nD KernelIdeal.τ KernelIdeal.sig) → Buf (Elt Ideal) ℓ) (c : Dev KernelIdeal.nD)
    (b : Fin 4000000) :
    KernelIdeal.RefValue.lossAt m c b = KernelIdeal.RefValue.boxLoss (fun k => KernelIdeal.RefValue.pred m c (ix2 b k))
      (fun k => KernelIdeal.RefValue.target m c (ix2 b k)) := by
  rw [KernelIdeal.RefValue.lossAt, padded_box, padded_box]

/-- The kernel counts box `b` where the centre of box `b` of the argument falls. -/
theorem hit_read (m : (ℓ : Loc KernelIdeal.nD KernelIdeal.τ KernelIdeal.sig) → Buf (Elt Ideal) ℓ) (c : Dev KernelIdeal.nD)
    (i j : Fin 32) (b : Fin 4000000) :
    KernelIdeal.RefValue.hitAt m c i j b
      = hit (KernelIdeal.RefValue.target m c (ix2 b 0)) (KernelIdeal.RefValue.target m c (ix2 b 1)) i j := by
  rw [KernelIdeal.RefValue.hitAt, padded_box]

/-- The two results are equal. -/
theorem agree (m : (ℓ : Loc KernelIdeal.nD KernelIdeal.τ KernelIdeal.sig) → Buf (Elt Ideal) ℓ) (c : Dev KernelIdeal.nD)
    (h : Pre_sizes_positive.fn (F := Ideal) (KernelIdeal.RefValue.pred m c)
      (KernelIdeal.RefValue.target m c) = fun _ => 1#1)
    (i : KernelIdeal.S_.Idx) :
    (Pipeline.afterTail₀ KernelIdeal.cfgs (KernelIdeal.Gen.dats m) 0 (KernelIdeal.Gen.V0 m) [KernelIdeal.Gen.hostOps1] c
        KernelIdeal.main_v23 : Vec Ideal KernelIdeal.S_ .f32) i
      = ReferenceIdeal.Read.val_main_v336 (F := Ideal) (KernelIdeal.RefValue.pred m c) (KernelIdeal.RefValue.target m c) i := by
  have hpre := Pre_sizes_positive.read _ _ h
  have hl : ∀ b : Fin 4000000, KernelIdeal.RefValue.lossAt m c b = ReferenceIdeal.RefValue.refLoss
      (fun k => KernelIdeal.RefValue.pred m c (ix2 b k)) (fun k => KernelIdeal.RefValue.target m c (ix2 b k)) := fun b =>
    (loss_read m c b).trans (loss_agree _ _ (hpre b).1 (hpre b).2.1 (hpre b).2.2)
  refine (KernelIdeal.RefValue.result m c i).trans (Eq.trans ?_ (ReferenceIdeal.RefValue.result _ _ i).symm)
  refine congrArg₂ finish (funext fun i => funext fun j => Finset.sum_congr rfl fun b _ => hit_read m c i j b)
    (congrArg₂ (· + ·) (Finset.sum_congr rfl fun b _ => hl b) (Finset.sum_congr rfl fun _ _ => loss_agree_fill))

end Cert.Value
-- ==== Proof.Reals.lean ====
/-
  The loss of one pair of boxes on the real numbers, and how it responds to the angle between the aspect ratios: a
  relative change of the angle changes the loss by at most the twelfth power of that change.
-/
module

public import Mathlib.Data.Real.Basic
public import Mathlib.Tactic.Linarith
public import Mathlib.Tactic.Positivity
public import Mathlib.Tactic.Ring
public import Mathlib.Tactic.NormNum
public import Mathlib.Algebra.BigOperators.Group.Finset.Basic
public import Mathlib.Algebra.Order.BigOperators.Group.Finset
public import Mathlib.Algebra.BigOperators.Ring.Finset
public import Mathlib.Algebra.Order.BigOperators.Ring.Finset

@[expose] public section

noncomputable section

namespace Cert.RealLoss

/-- The number that keeps the divisors off zero. -/
def eps : ℝ := 14073749 / 140737488355328

/-- Length of the overlap of two intervals given by centre and half length, never negative. -/
def overlap (x h x' h' : ℝ) : ℝ := max (min (x + h) (x' + h') - max (x - h) (x' - h')) 0

/-- Length of the smallest interval containing the two. -/
def hull (x h x' h' : ℝ) : ℝ := max (x + h) (x' + h') - min (x - h) (x' - h')

/-- Twice the distance of the two centres. -/
def shift (x h x' h' : ℝ) : ℝ := (x' - h') + (x' + h') - (x - h) - (x + h)

/-- Area of the intersection of the boxes `(x, y, w, h)` and `(x', y', w', h')`. -/
def inter (x y w h x' y' w' h' : ℝ) : ℝ :=
  overlap x (w * (1 / 2)) x' (w' * (1 / 2)) * overlap y (h * (1 / 2)) y' (h' * (1 / 2))

/-- Intersection over union. -/
def iou (x y w h x' y' w' h' : ℝ) : ℝ :=
  inter x y w h x' y' w' h' / (w * h + w' * h' - inter x y w h x' y' w' h' + eps)

/-- Squared diagonal of the box that encloses both. -/
def diag (x y w h x' y' w' h' : ℝ) : ℝ :=
  hull x (w * (1 / 2)) x' (w' * (1 / 2)) * hull x (w * (1 / 2)) x' (w' * (1 / 2))
    + hull y (h * (1 / 2)) y' (h' * (1 / 2)) * hull y (h * (1 / 2)) y' (h' * (1 / 2)) + eps

/-- Squared distance of the two centres. -/
def centreDist (x y w h x' y' w' h' : ℝ) : ℝ :=
  (shift x (w * (1 / 2)) x' (w' * (1 / 2)) * shift x (w * (1 / 2)) x' (w' * (1 / 2))
    + shift y (h * (1 / 2)) y' (h' * (1 / 2)) * shift y (h * (1 / 2)) y' (h' * (1 / 2))) * (1 / 4)

/-- The aspect term of the angle `a`. -/
def aspect (a : ℝ) : ℝ := 13599099 / 33554432 * (a * a)

/-- One less the complete intersection over union. -/
def gap (u d v : ℝ) : ℝ := 1 - (u - (d + v * (v / (v - u + 8388609 / 8388608))))

/-- The gap of two boxes whose aspect ratios make the angle `a`. -/
def boxGap (a x y w h x' y' w' h' : ℝ) : ℝ :=
  gap (iou x y w h x' y' w' h') (centreDist x y w h x' y' w' h' / diag x y w h x' y' w' h') (aspect a)

/-- The loss of two boxes: the cube of the gap over the target's area. -/
def loss (a x y w h x' y' w' h' : ℝ) : ℝ :=
  boxGap a x y w h x' y' w' h' * boxGap a x y w h x' y' w' h' * boxGap a x y w h x' y' w' h' / (w' * h' + eps)

/-- That number is positive. -/
theorem eps_pos : 0 < eps := by norm_num [eps]

/-- The overlap is not negative. -/
theorem overlap_nonneg (x h x' h' : ℝ) : 0 ≤ overlap x h x' h' := le_max_right _ _

/-- The overlap is no longer than the first interval. -/
theorem overlap_le_left (x x' : ℝ) {h h' : ℝ} (hh : 0 ≤ h) : overlap x (h * (1 / 2)) x' (h' * (1 / 2)) ≤ h := by
  refine max_le ?_ hh
  have a := min_le_left (x + h * (1 / 2)) (x' + h' * (1 / 2))
  have b := le_max_left (x - h * (1 / 2)) (x' - h' * (1 / 2))
  linarith

/-- The overlap is no longer than the second interval. -/
theorem overlap_le_right (x x' : ℝ) {h h' : ℝ} (hh : 0 ≤ h') : overlap x (h * (1 / 2)) x' (h' * (1 / 2)) ≤ h' := by
  refine max_le ?_ hh
  have a := min_le_right (x + h * (1 / 2)) (x' + h' * (1 / 2))
  have b := le_max_right (x - h * (1 / 2)) (x' - h' * (1 / 2))
  linarith

section
variable (x y x' y' : ℝ) {w h w' h' : ℝ} (hw : 0 ≤ w) (hh : 0 ≤ h) (hw' : 0 ≤ w') (hh' : 0 ≤ h')

/-- The intersection is not negative. -/
theorem inter_nonneg : 0 ≤ inter x y w h x' y' w' h' := mul_nonneg (overlap_nonneg _ _ _ _) (overlap_nonneg _ _ _ _)

include hw hh in
/-- The intersection is no larger than the first box. -/
theorem inter_le_left : inter x y w h x' y' w' h' ≤ w * h :=
  mul_le_mul (overlap_le_left _ _ hw) (overlap_le_left _ _ hh) (overlap_nonneg _ _ _ _) hw

include hw' hh' in
/-- The intersection is no larger than the second box. -/
theorem inter_le_right : inter x y w h x' y' w' h' ≤ w' * h' :=
  mul_le_mul (overlap_le_right _ _ hw') (overlap_le_right _ _ hh') (overlap_nonneg _ _ _ _) hw'

include hw hh in
/-- The divisor of the intersection over union is positive. -/
theorem union_pos (hw' : 0 ≤ w') (hh' : 0 ≤ h') : 0 < w * h + w' * h' - inter x y w h x' y' w' h' + eps := by
  have a := inter_le_left x y x' y' (w' := w') (h' := h') hw hh
  have b := mul_nonneg hw' hh'
  have c := eps_pos
  linarith

include hw hh hw' hh'

/-- The intersection over union is not negative. -/
theorem iou_nonneg : 0 ≤ iou x y w h x' y' w' h' :=
  div_nonneg (inter_nonneg x y x' y') (union_pos x y x' y' hw hh hw' hh').le

/-- The intersection over union is at most one. -/
theorem iou_le_one : iou x y w h x' y' w' h' ≤ 1 := by
  refine (div_le_one (union_pos x y x' y' hw hh hw' hh')).2 ?_
  have a := inter_le_left x y x' y' (w' := w') (h' := h') hw hh
  have b := inter_le_right x y x' y' (w := w) (h := h) hw' hh'
  have c := eps_pos
  linarith

omit hw hh hw' hh' in
/-- The squared diagonal, kept off zero, is positive. -/
theorem diag_pos : 0 < diag x y w h x' y' w' h' :=
  add_pos_of_nonneg_of_pos (add_nonneg (mul_self_nonneg _) (mul_self_nonneg _)) eps_pos

omit hw hh hw' hh' in
/-- The centre term is not negative. -/
theorem centre_nonneg : 0 ≤ centreDist x y w h x' y' w' h' / diag x y w h x' y' w' h' :=
  div_nonneg (mul_nonneg (add_nonneg (mul_self_nonneg _) (mul_self_nonneg _)) (by norm_num)) (diag_pos x y x' y').le

omit hw hh in
/-- The target's area, kept off zero, is positive. -/
theorem area_pos : 0 < w' * h' + eps := add_pos_of_nonneg_of_pos (mul_nonneg hw' hh') eps_pos

end

/-- The aspect term is not negative. -/
theorem aspect_nonneg (a : ℝ) : 0 ≤ aspect a := mul_nonneg (by norm_num) (mul_self_nonneg a)

/-- The divisor of the aspect term's weight is positive. -/
theorem weight_pos {u v : ℝ} (hu : u ≤ 1) (hv : 0 ≤ v) : 0 < v - u + 8388609 / 8388608 := by
  have : (1 : ℝ) < 8388609 / 8388608 := by norm_num
  linarith

/-- The weighted aspect term responds to a factor of the aspect term by at most the factor's square. -/
theorem weighted_le {s v v' l : ℝ} (hs : 0 < s) (hv : 0 ≤ v) (hv' : 0 ≤ v') (hl : 1 ≤ l) (h : v' ≤ l * v) :
    v' * (v' / (v' + s)) ≤ l ^ 2 * (v * (v / (v + s))) := by
  have h1 : v' * (v' / (v' + s)) ≤ (l * v) * ((l * v) / (l * v + s)) := by
    have hlv : 0 ≤ l * v := hv'.trans h
    rw [← mul_div_assoc, ← mul_div_assoc, div_le_div_iff₀ (by linarith) (by linarith)]
    have a : v' * v' * (l * v) ≤ (l * v) * (l * v) * v' := by
      have := mul_le_mul_of_nonneg_left h (mul_nonneg hv' hlv)
      linarith
    have b : v' * v' * s ≤ (l * v) * (l * v) * s :=
      mul_le_mul_of_nonneg_right (mul_le_mul h h hv' hlv) hs.le
    linarith
  refine h1.trans ?_
  have h2 : v + s ≤ l * v + s := by nlinarith
  have h3 : (l * v) / (l * v + s) ≤ (l * v) / (v + s) :=
    div_le_div_of_nonneg_left (hv'.trans h) (by linarith) h2
  calc (l * v) * ((l * v) / (l * v + s)) ≤ (l * v) * ((l * v) / (v + s)) := mul_le_mul_of_nonneg_left h3 (hv'.trans h)
    _ = l ^ 2 * (v * (v / (v + s))) := by ring

/-- The weighted aspect term is not negative. -/
theorem weighted_nonneg {u v : ℝ} (hu : u ≤ 1) (hv : 0 ≤ v) : 0 ≤ v * (v / (v - u + 8388609 / 8388608)) :=
  mul_nonneg hv (div_nonneg hv (weight_pos hu hv).le)

/-- The gap is not negative where the overlap ratio is at most one. -/
theorem gap_nonneg {u d v : ℝ} (hu : u ≤ 1) (hd : 0 ≤ d) (hv : 0 ≤ v) : 0 ≤ gap u d v := by
  have := weighted_nonneg hu hv
  unfold gap
  linarith

/-- The gap responds to a factor of the aspect term by at most the factor's square. -/
theorem gap_le {u d v v' l : ℝ} (hu : u ≤ 1) (hd : 0 ≤ d) (hv : 0 ≤ v) (hv' : 0 ≤ v') (hl : 1 ≤ l) (h : v' ≤ l * v) :
    gap u d v' ≤ l ^ 2 * gap u d v := by
  have hs : (0 : ℝ) < 8388609 / 8388608 - u := by
    have : (1 : ℝ) < 8388609 / 8388608 := by norm_num
    linarith
  have k := weighted_le hs hv hv' hl h
  have e : ∀ t : ℝ, t - u + 8388609 / 8388608 = t + (8388609 / 8388608 - u) := fun t => by ring
  unfold gap
  rw [e, e]
  have hl2 : 1 ≤ l ^ 2 := one_le_pow₀ hl
  have : (1 - u + d) * 1 ≤ (1 - u + d) * l ^ 2 := mul_le_mul_of_nonneg_left hl2 (by linarith)
  linarith

section
variable (x y x' y' : ℝ) {w h w' h' : ℝ} (hw : 0 ≤ w) (hh : 0 ≤ h) (hw' : 0 ≤ w') (hh' : 0 ≤ h')
include hw hh hw' hh'

/-- The gap of two boxes is not negative. -/
theorem boxGap_nonneg (a : ℝ) : 0 ≤ boxGap a x y w h x' y' w' h' :=
  gap_nonneg (iou_le_one x y x' y' hw hh hw' hh') (centre_nonneg x y x' y') (aspect_nonneg a)

/-- The loss of two boxes is not negative. -/
theorem loss_nonneg (a : ℝ) : 0 ≤ loss a x y w h x' y' w' h' :=
  have g := boxGap_nonneg x y x' y' hw hh hw' hh' a
  div_nonneg (mul_nonneg (mul_nonneg g g) g) (area_pos hw' hh').le

/-- The loss responds to a factor of the angle by at most the factor's twelfth power. -/
theorem loss_le {a b l : ℝ} (hb : 0 ≤ b) (hl : 1 ≤ l) (h1 : b ≤ l * a) :
    loss b x y w h x' y' w' h' ≤ l ^ 12 * loss a x y w h x' y' w' h' := by
  have hv : aspect b ≤ l ^ 2 * aspect a := by
    have := mul_le_mul h1 h1 hb (hb.trans h1)
    unfold aspect
    linarith
  have g : boxGap b x y w h x' y' w' h' ≤ (l ^ 2) ^ 2 * boxGap a x y w h x' y' w' h' :=
    gap_le (iou_le_one x y x' y' hw hh hw' hh') (centre_nonneg x y x' y') (aspect_nonneg a) (aspect_nonneg b)
      (one_le_pow₀ hl) hv
  have g0 := boxGap_nonneg x y x' y' hw hh hw' hh' b
  have c := pow_le_pow_left₀ g0 g 3
  unfold loss
  rw [← mul_div_assoc]
  refine (div_le_div_iff_of_pos_right (area_pos hw' hh')).2 ?_
  calc _ = boxGap b x y w h x' y' w' h' ^ 3 := by ring
    _ ≤ _ := c
    _ = _ := by ring

/-- An angle known to sixteen parts in a hundred million gives the loss to 1.95 parts in a million. -/
theorem loss_near {a b : ℝ} (ha : 0 ≤ a) (h1 : |b - a| ≤ 16 / 10 ^ 8 * a) :
    |loss b x y w h x' y' w' h' - loss a x y w h x' y' w' h'| ≤ 195 / 10 ^ 8 * loss a x y w h x' y' w' h' := by
  obtain ⟨p, q⟩ := abs_le.1 h1
  have hb : 0 ≤ b := by nlinarith
  have up := loss_le x y x' y' hw hh hw' hh' (a := a) (b := b) (l := 1 + 16 / 10 ^ 8) hb (by norm_num) (by linarith)
  have down := loss_le x y x' y' hw hh hw' hh' (a := b) (b := a) (l := 1 + 161 / 10 ^ 9) ha (by norm_num) (by linarith)
  have na := loss_nonneg x y x' y' hw hh hw' hh' a
  have nb := loss_nonneg x y x' y' hw hh hw' hh' b
  have c1 : ((1 : ℝ) + 16 / 10 ^ 8) ^ 12 ≤ 1 + 195 / 10 ^ 8 := by norm_num
  have c2 : ((1 : ℝ) + 161 / 10 ^ 9) ^ 12 ≤ 1 + 194 / 10 ^ 8 := by norm_num
  have u := up.trans (mul_le_mul_of_nonneg_right c1 na)
  have d := down.trans (mul_le_mul_of_nonneg_right c2 nb)
  refine abs_le.2 ⟨?_, by linarith⟩
  linarith

end

/-- The loss of a box of sizes one half against itself is tiny. -/
theorem loss_half : loss 0 (1 / 2) (1 / 2) (1 / 2) (1 / 2) (1 / 2) (1 / 2) (1 / 2) (1 / 2) ≤ 3 / 10 ^ 19 := by
  norm_num [loss, boxGap, gap, aspect, centreDist, diag, iou, inter, shift, hull, overlap, eps]

/-- Terms known to one relative precision add up to a sum known to it. -/
theorem sum_near {ι : Type*} [Fintype ι] (f g : ι → ℝ) (t : ℝ) (h : ∀ b, |f b - g b| ≤ t * g b) :
    |∑ b, f b - ∑ b, g b| ≤ t * ∑ b, g b := by
  rw [← Finset.sum_sub_distrib, Finset.mul_sum]
  exact (Finset.abs_sum_le_sum_abs _ _).trans (Finset.sum_le_sum fun b _ => h b)

end Cert.RealLoss
-- ==== Proof.Angle.lean ====
/-
  The polynomial arctangent on the real numbers: how near it comes to the true one. The true arctangent is met halfway by
  a polynomial of degree 21 whose derivative is almost that of the arctangent; the difference of the two polynomials is
  a short sum of Chebyshev polynomials, each of size at most 1.
-/
module

public import Mathlib.Analysis.SpecialFunctions.Trigonometric.Arctan
public import Mathlib.Analysis.SpecialFunctions.Trigonometric.DerivHyp
public import Mathlib.Analysis.Calculus.Deriv.Inverse
public import Mathlib.Analysis.Calculus.Deriv.MeanValue

@[expose] public section

noncomputable section

namespace Cert.Angle

/-- The derivative of the sine, from that of the hyperbolic sine at an imaginary number. -/
theorem deriv_sin (x : ℝ) : HasDerivAt Real.sin (Real.cos x) x := by
  have h : HasDerivAt Complex.sin (Complex.cos x) (x : ℂ) := by
    have h := ((Complex.hasDerivAt_sinh (x * Complex.I)).comp (x : ℂ) ((hasDerivAt_id (x : ℂ)).mul_const Complex.I)).mul_const (-Complex.I)
    have e : (fun z : ℂ => (Complex.sinh ∘ fun z => id z * Complex.I) z * -Complex.I) = Complex.sin := by
      funext z
      simp only [Function.comp, id, Complex.sinh_mul_I]
      linear_combination -Complex.sin z * Complex.I_mul_I
    rw [e] at h
    refine h.congr_deriv ?_
    rw [Complex.cosh_mul_I]
    linear_combination -Complex.cos x * Complex.I_mul_I
  have h' := h.real_of_complex
  rwa [← Complex.ofReal_cos, Complex.ofReal_re] at h'

/-- The derivative of the cosine, likewise. -/
theorem deriv_cos (x : ℝ) : HasDerivAt Real.cos (-Real.sin x) x := by
  have h : HasDerivAt Complex.cos (-Complex.sin x) (x : ℂ) := by
    have h := (Complex.hasDerivAt_cosh (x * Complex.I)).comp (x : ℂ) ((hasDerivAt_id (x : ℂ)).mul_const Complex.I)
    have e : (Complex.cosh ∘ fun z => id z * Complex.I) = Complex.cos := by
      funext z
      simp only [Function.comp, id, Complex.cosh_mul_I]
    rw [e] at h
    refine h.congr_deriv ?_
    rw [Complex.sinh_mul_I]
    linear_combination Complex.sin x * Complex.I_mul_I
  have h' := h.real_of_complex
  rwa [← Complex.ofReal_sin, ← Complex.ofReal_neg, Complex.ofReal_re] at h'

/-- The derivative of the arctangent. -/
theorem deriv_arctan (x : ℝ) : HasDerivAt Real.arctan (1 / (1 + x ^ 2)) x := by
  have hc : Real.cos (Real.arctan x) ≠ 0 := (Real.cos_arctan_pos x).ne'
  have ht : HasDerivAt Real.tan (1 + x ^ 2) (Real.arctan x) := by
    have h := (deriv_sin (Real.arctan x)).div (deriv_cos (Real.arctan x)) hc
    have e : (Real.sin / Real.cos : ℝ → ℝ) = Real.tan := funext fun y => (Real.tan_eq_sin_div_cos y).symm
    rw [e] at h
    refine h.congr_deriv ?_
    have hs := Real.sin_sq_add_cos_sq (Real.arctan x)
    have hx : x * Real.cos (Real.arctan x) = Real.sin (Real.arctan x) := by
      have := Real.tan_mul_cos hc
      rwa [Real.tan_arctan] at this
    rw [div_eq_iff (pow_ne_zero 2 hc)]
    linear_combination -(x * Real.cos (Real.arctan x) + Real.sin (Real.arctan x)) * hx
  rw [one_div]
  exact ht.of_local_left_inverse Real.continuous_arctan.continuousAt (by positivity)
    (Filter.Eventually.of_forall Real.tan_arctan)

/-- The Chebyshev polynomials by their recursion. -/
def cheb : ℕ → ℝ → ℝ
  | 0, _ => 1
  | 1, x => x
  | n + 2, x => 2 * x * cheb (n + 1) x - cheb n x

/-- At a cosine they are the cosine of the multiple angle. -/
theorem cheb_cos (θ : ℝ) : ∀ n : ℕ, cheb n (Real.cos θ) = Real.cos (n * θ)
  | 0 => by simp [cheb]
  | 1 => by simp [cheb]
  | n + 2 => by
    rw [cheb, cheb_cos θ (n + 1), cheb_cos θ n]
    have h := Real.cos_add ((n + 1 : ℕ) * θ) θ
    have h' := Real.cos_sub ((n + 1 : ℕ) * θ) θ
    have e : ((n + 2 : ℕ) : ℝ) * θ = (n + 1 : ℕ) * θ + θ := by push_cast; ring
    have e' : (n : ℝ) * θ = (n + 1 : ℕ) * θ - θ := by push_cast; ring
    rw [e, e', h, h']
    ring

/-- On [-1, 1] they are at most 1 in size. -/
theorem abs_cheb_le (n : ℕ) {x : ℝ} (h : -1 ≤ x) (h' : x ≤ 1) : |cheb n x| ≤ 1 := by
  rw [← Real.cos_arccos h h', cheb_cos]
  exact Real.abs_cos_le_one _

/-- The numerators of the derivative of the approximating polynomial, over 131836323, by powers of the square. -/
def coef : ℕ → ℝ
  | 0 => 131836322
  | 1 => -131836080
  | 2 => 131826400
  | 3 => -131675392
  | 4 => 130467328
  | 5 => -124829696
  | 6 => 108429312
  | 7 => -77791232
  | 8 => 41025536
  | 9 => -13631488
  | 10 => 2097152
  | _ => 0

/-- The approximating polynomial, odd and of degree 21. -/
def approx (t : ℝ) : ℝ := ∑ k ∈ Finset.range 11, coef k / (131836323 * (2 * k + 1)) * t ^ (2 * k + 1)

/-- Its derivative. -/
theorem approx_deriv (t : ℝ) : HasDerivAt approx ((1 + cheb 11 (2 * t ^ 2 - 1) / 131836323) / (1 + t ^ 2)) t := by
  have h : HasDerivAt approx (∑ k ∈ Finset.range 11, coef k / (131836323 * (2 * k + 1)) * ((2 * k + 1 : ℕ) * t ^ (2 * k))) t :=
    HasDerivAt.fun_sum fun k _ => (hasDerivAt_pow (2 * k + 1) t).const_mul _
  refine h.congr_deriv ?_
  rw [eq_div_iff (by positivity)]
  simp only [Finset.sum_range_succ, Finset.sum_range_zero, coef, cheb]
  push_cast
  ring

/-- A function that vanishes at zero and grows nowhere faster than another that does is below it. -/
theorem le_of_deriv_le {f g f' g' : ℝ → ℝ} (hf : ∀ t, HasDerivAt f (f' t) t) (hg : ∀ t, HasDerivAt g (g' t) t)
    (h0 : f 0 = g 0) {t : ℝ} (ht : 0 ≤ t) (h1 : t ≤ 1) (h : ∀ s, 0 ≤ s → s ≤ 1 → f' s ≤ g' s) : f t ≤ g t := by
  have hm : MonotoneOn (fun s => g s - f s) (Set.Icc 0 1) := by
    refine monotoneOn_of_deriv_nonneg (convex_Icc 0 1)
      (fun s _ => ((hg s).sub (hf s)).continuousAt.continuousWithinAt)
      (fun s _ => ((hg s).sub (hf s)).differentiableAt.differentiableWithinAt) fun s hs => ?_
    rw [interior_Icc] at hs
    have e : deriv (fun s => g s - f s) s = g' s - f' s := ((hg s).sub (hf s)).deriv
    rw [e]
    exact sub_nonneg.mpr (h s hs.1.le hs.2.le)
  have := hm (Set.left_mem_Icc.mpr zero_le_one) ⟨ht, h1⟩ ht
  simp only at this
  linarith

/-- The approximating polynomial against the arctangent on [0, 1]. -/
theorem approx_near {t : ℝ} (ht : 0 ≤ t) (h1 : t ≤ 1) :
    |approx t - Real.arctan t| ≤ 1 / 131836323 * Real.arctan t := by
  have hc : ∀ s : ℝ, 0 ≤ s → s ≤ 1 → |cheb 11 (2 * s ^ 2 - 1)| ≤ 1 := fun s h0 h1 =>
    abs_cheb_le 11 (by nlinarith) (by nlinarith)
  have ha : ∀ (c s : ℝ), HasDerivAt (fun s => c * Real.arctan s) (c * (1 / (1 + s ^ 2))) s := fun c s =>
    (deriv_arctan s).const_mul c
  have z : approx 0 = 0 := by simp [approx]
  have up : approx t ≤ (1 + 1 / 131836323) * Real.arctan t := by
    refine le_of_deriv_le (f := approx) approx_deriv (ha _) (by simp [z]) ht h1 fun s h0 h1 => ?_
    rw [mul_one_div]
    have := (abs_le.mp (hc s h0 h1)).2
    gcongr
  have lo : (1 - 1 / 131836323) * Real.arctan t ≤ approx t := by
    refine le_of_deriv_le (g := approx) (ha _) approx_deriv (by simp [z]) ht h1 fun s h0 h1 => ?_
    rw [mul_one_div]
    have := (abs_le.mp (hc s h0 h1)).1
    gcongr
    linarith
  rw [abs_le]
  constructor <;> linarith

/-- The approximating polynomial at 1. -/
theorem approx_one : approx 1 = 1506517138642382 / 1918157195759805 := by
  simp only [approx, Finset.sum_range_succ, Finset.sum_range_zero, coef]
  norm_num

/-- The kernel's polynomial, on the real numbers. -/
def oddPoly (t : ℝ) : ℝ :=
  t * ((((((((3257797 / 1073741824 * (t * t) + -2250897 / 134217728) * (t * t) + 11750421 / 268435456) * (t * t)
    + -5094077 / 67108864) * (t * t) + 7166549 / 67108864) * (t * t) + -9537965 / 67108864) * (t * t)
    + 838595 / 4194304) * (t * t) + -11184739 / 33554432) * (t * t) + 1)

/-- The coefficients of the difference of the two polynomials over the Chebyshev polynomials. -/
def dcoef : ℕ → ℝ
  | 0 => 769862881260079506803 / 67489156500483541781194997760
  | 1 => 5109092580369759869 / 4218072281280221361324687360
  | 2 => 46380234601373744297 / 8436144562560442722649374720
  | 3 => 11712833581678725383 / 4218072281280221361324687360
  | 4 => 62984771067196309783 / 16872289125120885445298749440
  | 5 => 3338152343834843831 / 1406024093760073787108229120
  | 6 => 1048942331842959343 / 255640744320013415837859840
  | 7 => 34617921415298707 / 9832336320000515993763840
  | 8 => 213785451648857105 / 31463476224001651180044288
  | 9 => 664 / 52602692877
  | 10 => -4 / 2768562783
  | _ => 0

/-- The difference of the two polynomials. -/
theorem oddPoly_sub (t : ℝ) :
    oddPoly t - approx t = t * ∑ k ∈ Finset.range 11, dcoef k * cheb k (2 * t ^ 2 - 1) := by
  simp only [oddPoly, approx, Finset.sum_range_succ, Finset.sum_range_zero, coef, dcoef, cheb]
  push_cast
  ring

/-- The kernel's polynomial against the approximating one on [0, 1]. -/
theorem oddPoly_near_approx {t : ℝ} (ht : 0 ≤ t) (h1 : t ≤ 1) : |oddPoly t - approx t| ≤ t * (56 / 10 ^ 9) := by
  rw [oddPoly_sub, abs_mul, abs_of_nonneg ht]
  refine mul_le_mul_of_nonneg_left ((Finset.abs_sum_le_sum_abs _ _).trans ?_) ht
  have hb : ∀ k ∈ Finset.range 11, |dcoef k * cheb k (2 * t ^ 2 - 1)| ≤ |dcoef k| := fun k _ => by
    rw [abs_mul]
    exact mul_le_of_le_one_right (abs_nonneg _) (abs_cheb_le k (by nlinarith) (by nlinarith))
  refine (Finset.sum_le_sum hb).trans ?_
  simp only [Finset.sum_range_succ, Finset.sum_range_zero, dcoef]
  norm_num [abs_div]

/-- On [0, 1] the arctangent is at least half its argument. -/
theorem half_le_arctan {t : ℝ} (ht : 0 ≤ t) (h1 : t ≤ 1) : t / 2 ≤ Real.arctan t := by
  refine le_of_deriv_le (f := fun t => t / 2) (f' := fun _ => 1 / 2) (fun s => (hasDerivAt_id s).div_const 2)
    deriv_arctan (by simp) ht h1 fun s h0 h1 => ?_
  rw [div_le_div_iff₀ (by norm_num) (by positivity)]
  nlinarith

/-- The kernel's polynomial against the arctangent on [0, 1]. -/
theorem oddPoly_near {t : ℝ} (ht : 0 ≤ t) (h1 : t ≤ 1) :
    |oddPoly t - Real.arctan t| ≤ t * (56 / 10 ^ 9) + 1 / 131836323 * Real.arctan t :=
  (abs_sub_le _ (approx t) _).trans (add_le_add (oddPoly_near_approx ht h1) (approx_near ht h1))

/-- The kernel's arctangent of `r >= 0` on the real numbers. -/
def atanPoly (r : ℝ) : ℝ :=
  if 1 < r then 13176795 / 8388608 - oddPoly (1 / r) else oddPoly r

/-- It differs from the true one by at most 16 parts in a hundred million. -/
theorem atanPoly_near {r : ℝ} (hr : 0 ≤ r) : |atanPoly r - Real.arctan r| ≤ 16 / 10 ^ 8 * Real.arctan r := by
  unfold atanPoly
  split_ifs with h
  · have hp : 0 < r := by linarith
    have ht : 0 ≤ 1 / r := by positivity
    have h1 : 1 / r ≤ 1 := (div_le_one hp).mpr h.le
    have e : Real.arctan r = Real.pi / 2 - Real.arctan (1 / r) := by
      rw [one_div, Real.arctan_inv_of_pos hp]; ring
    have hq : Real.arctan (1 / r) ≤ Real.pi / 4 := by
      rw [← Real.arctan_one]
      exact Real.arctan_strictMono.monotone h1
    have hn := abs_le.mp (oddPoly_near ht h1)
    have h2 := abs_le.mp (approx_near zero_le_one le_rfl)
    rw [approx_one, Real.arctan_one] at h2
    rw [e, abs_le]
    constructor <;> linarith
  · have h1 : r ≤ 1 := not_lt.mp h
    have hn := oddPoly_near hr h1
    have h2 := half_le_arctan hr h1
    refine hn.trans ?_
    linarith

/-- The difference of two angles whose tangents are not negative is, up to sign, the angle of the tangent difference. -/
theorem arctan_diff {p q : ℝ} (hp : 0 ≤ p) (hq : 0 ≤ q) :
    |Real.arctan q - Real.arctan p| = Real.arctan (|q - p| / (1 + q * p)) := by
  have key : ∀ {p q : ℝ}, 0 ≤ p → p ≤ q → |Real.arctan q - Real.arctan p| = Real.arctan (|q - p| / (1 + q * p)) := by
    intro p q hp hpq
    have hm : Real.arctan p ≤ Real.arctan q := Real.arctan_strictMono.monotone hpq
    have hlt : q * -p < 1 := by nlinarith
    rw [abs_of_nonneg (sub_nonneg.mpr hm), abs_of_nonneg (sub_nonneg.mpr hpq), sub_eq_add_neg, ← Real.arctan_neg,
      Real.arctan_add hlt]
    congr 1
    ring
  rcases le_total p q with h | h
  · exact key hp h
  · rw [abs_sub_comm, abs_sub_comm q p, mul_comm q p]
    exact key hq h

end Cert.Angle
-- ==== Proof.Coerce.lean ====
/-
  The loss of one pair of boxes with real components is a real number: the loss on the extended reals, read on the reals,
  and the polynomial arctangent and the tangent of the difference with it.
-/
module

public import proofs.«01_k».proof.Proof.Loss
public import proofs.«01_k».proof.Proof.Reals
public import proofs.«01_k».proof.Proof.Angle

@[expose] public section

set_option maxRecDepth 16384

noncomputable section

namespace Cert.Coerce

open Idealize.ShloMosaic Cert.BoxLoss

/-- The value of the constant one quarter. -/
theorem num_quarter : num 0x3E800000#32 = ((1 / 4 : ℝ) : EReal) := by
  rw [num_value 0x3E800000#32 125 0 1 (by simp) (by decide) (by decide) (by decide) (by decide)]
  norm_num

/-- The value of the constant that keeps the divisors off zero. -/
theorem num_eps : num 0x33D6BF95#32 = ((RealLoss.eps : ℝ) : EReal) := by
  rw [num_value 0x33D6BF95#32 103 5685141 1 (by simp) (by decide) (by decide) (by decide) (by decide)]
  norm_num [RealLoss.eps]

/-- The value of the constant of the aspect term. -/
theorem num_aspect : num 0x3ECF817B#32 = ((13599099 / 33554432 : ℝ) : EReal) := by
  rw [num_value 0x3ECF817B#32 125 5210491 1 (by simp) (by decide) (by decide) (by decide) (by decide)]
  norm_num

/-- The value of the constant next above one. -/
theorem num_above_one : num 0x3F800001#32 = ((8388609 / 8388608 : ℝ) : EReal) := by
  rw [num_value 0x3F800001#32 127 1 1 (by simp) (by decide) (by decide) (by decide) (by decide)]
  norm_num

/-- The value of the constant of a quarter turn. -/
theorem num_quarter_turn : num 0x3FC90FDB#32 = ((13176795 / 8388608 : ℝ) : EReal) := by
  rw [num_value 0x3FC90FDB#32 127 4788187 1 (by simp) (by decide) (by decide) (by decide) (by decide)]
  norm_num

/-- The greater of two reals. -/
theorem coe_max (x y : ℝ) : max (x : EReal) (y : EReal) = ((max x y : ℝ) : EReal) :=
  (EReal.coe_strictMono.monotone.map_max).symm

/-- The lesser of two reals. -/
theorem coe_min (x y : ℝ) : min (x : EReal) (y : EReal) = ((min x y : ℝ) : EReal) :=
  (EReal.coe_strictMono.monotone.map_min).symm

/-- Division of reals by a real that is not zero. -/
theorem coe_quotient (x : ℝ) {y : ℝ} (hy : y ≠ 0) : Ideal.div (x : EReal) (y : EReal) = ((x / y : ℝ) : EReal) := by
  rw [Ideal.div_coe hy, ← EReal.coe_mul]
  exact congrArg _ (by ring)

/-- The overlap of intervals with real ends. -/
theorem overlap_coe (x h x' h' : ℝ) : overlap (x : EReal) h x' h' = ((RealLoss.overlap x h x' h' : ℝ) : EReal) := by
  unfold overlap RealLoss.overlap
  rw [← coe_max, EReal.coe_sub, ← coe_min, ← coe_max]
  push_cast
  rfl

/-- The length of the enclosing interval, of intervals with real ends. -/
theorem hull_coe (x h x' h' : ℝ) : hull (x : EReal) h x' h' = ((RealLoss.hull x h x' h' : ℝ) : EReal) := by
  unfold hull RealLoss.hull
  rw [EReal.coe_sub, ← coe_min, ← coe_max]
  push_cast
  rfl

/-- Twice the distance of real centres. -/
theorem shift_coe (x h x' h' : ℝ) : shift (x : EReal) h x' h' = ((RealLoss.shift x h x' h' : ℝ) : EReal) := by
  unfold shift RealLoss.shift
  push_cast
  rfl

/-- Half of a real. -/
theorem halved (w : ℝ) : (w : EReal) * num 0x3F000000#32 = ((w * (1 / 2) : ℝ) : EReal) := by
  rw [num_half, EReal.coe_mul]

/-- The aspect term of a real angle. -/
theorem aspect_coe (a : ℝ) : aspect (a : EReal) = ((RealLoss.aspect a : ℝ) : EReal) := by
  unfold aspect RealLoss.aspect
  rw [num_aspect, EReal.coe_mul, EReal.coe_mul]

section
variable (x y x' y' : ℝ) {w h w' h' : ℝ} (hw : 0 ≤ w) (hh : 0 ≤ h) (hw' : 0 ≤ w') (hh' : 0 ≤ h')

/-- The squared diagonal of boxes with real components. -/
theorem diag_coe : diag (x : EReal) y w h x' y' w' h' = ((RealLoss.diag x y w h x' y' w' h' : ℝ) : EReal) := by
  unfold diag RealLoss.diag
  simp only [halved, hull_coe, num_eps, ← EReal.coe_add, ← EReal.coe_mul]

/-- The squared distance of real centres. -/
theorem centre_coe :
    centreDist (x : EReal) y w h x' y' w' h' = ((RealLoss.centreDist x y w h x' y' w' h' : ℝ) : EReal) := by
  unfold centreDist RealLoss.centreDist
  simp only [halved, shift_coe, num_quarter, ← EReal.coe_add, ← EReal.coe_mul]

include hw hh hw' hh' in
/-- The intersection over union of boxes with real components and sizes that are not negative. -/
theorem iou_coe : iou (x : EReal) y w h x' y' w' h' = ((RealLoss.iou x y w h x' y' w' h' : ℝ) : EReal) := by
  unfold RealLoss.iou
  rw [← coe_quotient _ (RealLoss.union_pos x y x' y' hw hh hw' hh').ne']
  unfold iou RealLoss.inter
  simp only [halved, overlap_coe, num_eps, ← EReal.coe_add, ← EReal.coe_sub, ← EReal.coe_mul]

/-- The gap on reals whose divisor is positive. -/
theorem gap_coe {u v : ℝ} (d : ℝ) (hu : u ≤ 1) (hv : 0 ≤ v) :
    gap (u : EReal) d v = ((RealLoss.gap u d v : ℝ) : EReal) := by
  unfold gap RealLoss.gap
  rw [num_above_one, ← EReal.coe_sub, ← EReal.coe_add, coe_quotient _ (RealLoss.weight_pos hu hv).ne', ← EReal.coe_one]
  simp only [EReal.coe_sub, EReal.coe_add, EReal.coe_mul]

include hw hh hw' hh' in
/-- The loss of two boxes with real components and sizes that are not negative, at a real angle. -/
theorem loss_coe (a : ℝ) :
    loss (a : EReal) x y w h x' y' w' h' = ((RealLoss.loss a x y w h x' y' w' h' : ℝ) : EReal) := by
  have g : gap (iou (x : EReal) y w h x' y' w' h')
      (Ideal.div (centreDist (x : EReal) y w h x' y' w' h') (diag (x : EReal) y w h x' y' w' h')) (aspect a)
      = ((RealLoss.boxGap a x y w h x' y' w' h' : ℝ) : EReal) := by
    rw [iou_coe x y x' y' hw hh hw' hh', centre_coe, diag_coe, aspect_coe,
      coe_quotient _ (RealLoss.diag_pos x y x' y').ne',
      gap_coe _ (RealLoss.iou_le_one x y x' y' hw hh hw' hh') (RealLoss.aspect_nonneg a)]
    rfl
  unfold loss RealLoss.loss
  rw [g, num_eps, ← coe_quotient _ (RealLoss.area_pos hw' hh').ne']
  simp only [EReal.coe_add, EReal.coe_mul]

end

/-- The odd polynomial on the reals. -/
theorem oddPoly_coe (t : ℝ) : oddPoly (t : EReal) = ((Angle.oddPoly t : ℝ) : EReal) := by
  unfold oddPoly Angle.oddPoly
  rw [num_value 0xBEAAAA63#32 125 2796131 (-1) (by simp) (by decide) (by decide) (by decide) (by decide),
    num_value 0x3E4CBC30#32 124 5028912 1 (by simp) (by decide) (by decide) (by decide) (by decide),
    num_value 0xBE1189AD#32 124 1149357 (-1) (by simp) (by decide) (by decide) (by decide) (by decide),
    num_value 0x3DDAB4AA#32 123 5944490 1 (by simp) (by decide) (by decide) (by decide) (by decide),
    num_value 0xBD9B757A#32 123 1799546 (-1) (by simp) (by decide) (by decide) (by decide) (by decide),
    num_value 0x3D334C15#32 122 3361813 1 (by simp) (by decide) (by decide) (by decide) (by decide),
    num_value 0xBC896244#32 121 614980 (-1) (by simp) (by decide) (by decide) (by decide) (by decide),
    num_value 0x3B46D714#32 118 4642580 1 (by simp) (by decide) (by decide) (by decide) (by decide), ← EReal.coe_one]
  simp only [← EReal.coe_mul, ← EReal.coe_add]
  refine congrArg _ ?_
  norm_num
  try ring

/-- The polynomial arctangent of a real that is not negative. -/
theorem atanPoly_coe {r : ℝ} (hr : 0 ≤ r) : atanPoly (r : EReal) = ((Angle.atanPoly r : ℝ) : EReal) := by
  unfold atanPoly Angle.atanPoly
  rw [← EReal.coe_one]
  by_cases h : 1 < r
  · have h' : 1 / r ≤ r := by
      rw [div_le_iff₀ (by linarith)]
      nlinarith
    rw [if_pos h, if_pos (EReal.coe_lt_coe_iff.2 h), coe_quotient _ (by linarith), coe_min, min_eq_right h', oddPoly_coe,
      num_quarter_turn, EReal.coe_sub]
  · rw [if_neg h, if_neg (fun k => h (EReal.coe_lt_coe_iff.1 k)), ← oddPoly_coe]
    refine congrArg _ ?_
    rcases hr.eq_or_lt with e | e
    · subst e
      unfold Ideal.div
      simp
    · rw [coe_quotient _ e.ne', coe_min, min_eq_left]
      rw [le_div_iff₀ e]
      nlinarith

/-- The tangent of the difference of two angles whose tangents are not negative. -/
theorem tanDiff_coe {p q : ℝ} (hp : 0 ≤ p) (hq : 0 ≤ q) :
    tanDiff (p : EReal) (q : EReal) = ((|q - p| / (1 + q * p) : ℝ) : EReal) := by
  have h : 0 < 1 + q * p := by positivity
  unfold tanDiff
  rw [← coe_quotient _ h.ne', abs_eq_max_neg, ← coe_max]
  simp only [EReal.coe_add, EReal.coe_mul, EReal.coe_sub, EReal.coe_neg, EReal.coe_one]

end Cert.Coerce
-- ==== Proof.Mean.lean ====
/-
  The last step of the loss on real numbers: on counts that are real, not negative and not all zero it multiplies the mean
  of the losses by a number between 0 and 5/2.
-/
module

public import proofs.«01_k».proof.Proof.Density
public import proofs.«01_k».proof.Proof.Coerce

@[expose] public section

noncomputable section

namespace Cert.Mean

open Idealize.ShloMosaic Cert.BoxLoss Cert.Coerce

/-- A finite sum of reals, each read as an extended real. -/
theorem sum_coe {ι : Type*} (s : Finset ι) (f : ι → ℝ) : ∑ b ∈ s, (f b : EReal) = ((∑ b ∈ s, f b : ℝ) : EReal) :=
  (map_sum (⟨⟨Real.toEReal, EReal.coe_zero⟩, EReal.coe_add⟩ : ℝ →+ EReal) f s).symm

/-- The value of the constant by which the total is divided, the number of boxes. -/
theorem num_boxes : num 0x4A742400#32 = ((4000000 : ℝ) : EReal) := by
  rw [num_value 0x4A742400#32 148 7611392 1 (by simp) (by decide) (by decide) (by decide) (by decide)]
  norm_num

/-- The value of the constant by which the weights are divided, the number of cells. -/
theorem num_cells : num 0x44800000#32 = ((1024 : ℝ) : EReal) := by
  rw [num_value 0x44800000#32 137 0 1 (by simp) (by decide) (by decide) (by decide) (by decide)]
  norm_num

/-- The value of the constant three halves. -/
theorem num_three_halves : num 0x3FC00000#32 = ((3 / 2 : ℝ) : EReal) := by
  rw [num_value 0x3FC00000#32 127 4194304 1 (by simp) (by decide) (by decide) (by decide) (by decide)]
  norm_num

/-- The pattern the greatest entry starts from is minus infinity. -/
theorem num_least : num 0xFF800000#32 = (⊥ : EReal) := by
  simp [Ideal.ofBits, Ideal.ieee]

/-- The greatest of finitely many reals, one of them positive, is a positive real above each. -/
theorem greatest (c : Fin 32 → Fin 32 → ℝ) {i₀ j₀ : Fin 32} (h : 0 < c i₀ j₀) :
    ∃ g : ℝ, 0 < g ∧ (∀ i j, c i j ≤ g) ∧
      Finset.fold max (num 0xFF800000#32) (fun k : Fin 32 × Fin 32 => (c k.1 k.2 : EReal)) Finset.univ = (g : EReal) := by
  rw [num_least]
  generalize hG : Finset.fold max (⊥ : EReal) (fun k : Fin 32 × Fin 32 => (c k.1 k.2 : EReal)) Finset.univ = G
  have above : ∀ i j, (c i j : EReal) ≤ G := fun i j => by
    rw [← hG]
    exact Finset.le_fold_max _ |>.2 (Or.inr ⟨(i, j), Finset.mem_univ _, le_rfl⟩)
  have top : G ≠ ⊤ := by
    rw [← hG]
    exact (Finset.fold_max_lt _ |>.2 ⟨bot_lt_top, fun k _ => EReal.coe_lt_top _⟩).ne
  have bot : G ≠ ⊥ := ((EReal.bot_lt_coe _).trans_le (above i₀ j₀)).ne'
  lift G to ℝ using ⟨top, bot⟩
  exact ⟨G, h.trans_le (EReal.coe_le_coe_iff.1 (above i₀ j₀)), fun i j => EReal.coe_le_coe_iff.1 (above i j), rfl⟩

/-- The last step on real counts: it takes a real total to its mean times a number between 0 and 5/2. -/
theorem finish_real (c : Fin 32 → Fin 32 → ℝ) (h0 : ∀ i j, 0 ≤ c i j) {i₀ j₀ : Fin 32} (h : 0 < c i₀ j₀) :
    ∃ w : ℝ, 0 ≤ w ∧ w ≤ 5 / 2 ∧
      ∀ t : ℝ, finish (fun i j => (c i j : EReal)) (t : EReal) = ((t / 4000000 * w : ℝ) : EReal) := by
  obtain ⟨g, hg, above, e⟩ := greatest c h
  have term : ∀ i j, 1 + num 0x3FC00000#32 * Ideal.div (c i j : EReal) (g : EReal)
      = ((1 + 3 / 2 * (c i j / g) : ℝ) : EReal) := fun i j => by
    rw [num_three_halves, coe_quotient _ hg.ne', EReal.coe_add, EReal.coe_mul, EReal.coe_one]
  have low : ∀ i j, 0 ≤ 1 + 3 / 2 * (c i j / g) := fun i j => by
    have := div_nonneg (h0 i j) hg.le
    linarith
  have high : ∀ i j, 1 + 3 / 2 * (c i j / g) ≤ 5 / 2 := fun i j => by
    have := (div_le_one hg).2 (above i j)
    linarith
  refine ⟨(∑ i, ∑ j, (1 + 3 / 2 * (c i j / g))) / 1024, ?_, ?_, fun t => ?_⟩
  · exact div_nonneg (Finset.sum_nonneg fun i _ => Finset.sum_nonneg fun j _ => low i j) (by norm_num)
  · rw [div_le_iff₀ (by norm_num)]
    refine (Finset.sum_le_sum fun i _ => Finset.sum_le_sum fun j _ => high i j).trans ?_
    norm_num
  · unfold finish
    rw [e, num_boxes, num_cells, coe_quotient _ (by norm_num)]
    simp only [term, sum_coe]
    rw [coe_quotient _ (by norm_num), EReal.coe_mul]

/-- The counts of finitely many points in the cells are real numbers, and the cell of one of the points counts it. -/
theorem counts_real {ι : Type*} [Fintype ι] (x y : ι → EReal) (b₀ : ι) :
    ∃ c : Fin 32 → Fin 32 → ℝ, (∀ i j, 0 ≤ c i j) ∧ (∃ i j, 0 < c i j) ∧
      (fun i j => ∑ b, hit (x b) (y b) i j) = fun i j => (c i j : EReal) := by
  have e : ∀ i j b, hit (x b) (y b) i j
      = (((if (cell (y b)).toNat = i ∧ (cell (x b)).toNat = j then 1 else 0 : ℝ)) : EReal) := fun i j b => by
    unfold hit
    split <;> simp
  have n : ∀ (i j : Fin 32) b, (0 : ℝ) ≤ if (cell (y b)).toNat = i ∧ (cell (x b)).toNat = j then 1 else 0 := fun i j b => by
    split <;> norm_num
  refine ⟨fun i j => ∑ b, if (cell (y b)).toNat = i ∧ (cell (x b)).toNat = j then 1 else 0,
    fun i j => Finset.sum_nonneg fun b _ => n i j b, ⟨⟨_, cell_lt (y b₀)⟩, ⟨_, cell_lt (x b₀)⟩, ?_⟩,
    funext fun i => funext fun j => ?_⟩
  · refine lt_of_lt_of_le ?_ (Finset.single_le_sum (fun b _ => n _ _ b) (Finset.mem_univ b₀))
    norm_num
  · rw [← sum_coe]
    exact Finset.sum_congr rfl fun b _ => e i j b

end Cert.Mean
-- ==== Proof.Exact.lean ====
/-
  The postcondition read at its one entry: it compares the kernel's result with the last step of the loss on the counts and
  the total of the losses at the true arctangents, within a relative and an absolute tolerance.
-/
module

public import proofs.«01_k».proof.Proof.Gen.Post_near_exact
public import proofs.«01_k».proof.Proof.RefValue

@[expose] public section

set_option maxRecDepth 16384

noncomputable section

namespace Cert.Exact

open Idealize.ShloMosaic Idealize.ShloMosaic.TcCoe Idealize.SL.Sem Cert.ReferenceIdeal Cert.ReferenceIdeal.Gen
  Cert.ReferenceIdeal.Read Cert.ReferenceIdeal.RefValue Cert.BoxLoss

attribute [local instance] Cert.Post_near_exact.Gen.facts

/-- The loss of two boxes given by their four components, at the difference of the true arctangents. -/
def trueLoss (p q : Fin 4 → EReal) : EReal :=
  lossPow (Ideal.atan (Ideal.div (q 2) (q 3)) - Ideal.atan (Ideal.div (p 2) (p 3)))
    (p 0) (p 1) (p 2) (p 3) (q 0) (q 1) (q 2) (q 3)

/-- The value the postcondition compares with, from the map of counts and the array of losses. -/
abbrev value (C : FVec Ideal S32x32 .f32) (L : FVec Ideal S4000000 .f32) : FVec Ideal S_ .f32 :=
  mulf (Host.divf (Host.reduceAdd L (constant S_ .f32 0x00000000#32) reducesTo_S4000000_S_d0 h_S_) (constant S_ .f32 0x4A742400#32))
    (Host.divf (Host.reduceAdd (addf (broadcastInDim S32x32 ![] bcast_S_S32x32 (constant S_ .f32 0x3F800000#32))
        (mulf (broadcastInDim S32x32 ![] bcast_S_S32x32 (constant S_ .f32 0x3FC00000#32))
          (Host.divf C (broadcastInDim S32x32 ![] bcast_S_S32x32
            (Host.reduce FloatOps.maximumf C (constant S_ .f32 0xFF800000#32) reducesTo_S32x32_S_d0_1 h_S_)))))
      (constant S_ .f32 0x00000000#32) reducesTo_S32x32_S_d0_1 h_S_) (constant S_ .f32 0x44800000#32))

variable (x0 x1 : (⟨S4000000x4, .f32⟩ : BufTy).Contents (Elt Ideal))

/-- The postcondition is a comparison with that value, whose losses are those at the true arctangents. -/
theorem split : ∃ L : FVec Ideal S4000000 .f32,
    (∀ r : FVec Ideal S_ .f32, Post_near_exact.fn (F := Ideal) x0 x1 r
      = cmpf .ole (Host.absf (subf r (value (val_main_v325 (F := Ideal) x1) L)))
          (addf (mulf (constant S_ .f32 0x360637BD#32) (value (val_main_v325 (F := Ideal) x1) L))
            (constant S_ .f32 0x219392EF#32)))
    ∧ ∀ i, L i = trueLoss (sliced x0 i) (sliced x1 i) := by
  refine ⟨_, fun r => rfl, fun i => ?_⟩
  unfold trueLoss lossPow iou gap
  simp only [overlap_zero_first]
  rw [← Ideal.ofBits_one_f32, ← Ideal.ofBits_zero_f32]
  rfl

/-- That value, read: the last step of the loss on the counts and the total of the losses. -/
theorem value_read (C : FVec Ideal S32x32 .f32) (L : FVec Ideal S4000000 .f32) (i : S_.Idx) :
    value C L i = finish (fun i j => C (ix2 i j)) (∑ b : Fin 4000000, L (ix1 b)) := by
  refine (finish_ops C _ i).trans (congrArg (finish _) ?_)
  simp only [Host.reduceAdd, Ideal.hostReduceAdd_def]
  refine (Ideal.hostReduceAdd_total reducesTo_S4000000_S_d0 (fun b => b.elim0) L _ i).trans ?_
  rw [sum_idx1]
  exact (congrArg (· + _) Ideal.ofBits_zero_f32).trans (zero_add _)

/-- The postcondition holds of a result that is within the tolerances of the last step on the counts and the losses. -/
theorem holds (r : FVec Ideal S_ .f32) (e : EReal)
    (he : e = finish (fun i j => ∑ b : Fin 4000000, hit (x1 (ix2 b 0)) (x1 (ix2 b 1)) i j)
      (∑ b : Fin 4000000, trueLoss (fun k => x0 (ix2 b k)) (fun k => x1 (ix2 b k))))
    (h : ∀ i, max (r i - e) (-(r i - e)) ≤ num 0x360637BD#32 * e + num 0x219392EF#32) :
    Post_near_exact.fn (F := Ideal) x0 x1 r = fun _ => 1#1 := by
  obtain ⟨L, hf, hL⟩ := split x0 x1
  have hc : (fun i j => val_main_v325 (F := Ideal) x1 (ix2 i j))
      = fun i j : Fin 32 => ∑ b : Fin 4000000, hit (x1 (ix2 b 0)) (x1 (ix2 b 1)) i j :=
    funext fun i => funext fun j => map_counts x1 i j
  have hv : ∀ i, value (val_main_v325 (F := Ideal) x1) L i = e := fun i => by
    rw [value_read, hc, he]
    refine congrArg (finish _) (Finset.sum_congr rfl fun b _ => ?_)
    rw [hL, sliced_eq, sliced_eq]
  rw [hf r]
  generalize value (val_main_v325 (F := Ideal) x1) L = V at hv
  funext i
  have hi := h i
  rw [← hv i] at hi
  exact congrArg BitVec.ofBool (decide_eq_true hi)

end Cert.Exact
-- ==== Proof.Near.lean ====
/-
  The kernel's result is near the last step on the losses at the true arctangents: box by box the polynomial arctangent
  is near the true one, so the losses are; the filling boxes add a term below the absolute tolerance.
-/
module

public import proofs.«01_k».proof.Proof.Tail
public import proofs.«01_k».proof.Proof.Mean
public import proofs.«01_k».proof.Proof.Exact

@[expose] public section

set_option maxRecDepth 16384

noncomputable section

namespace Cert.Near

open Idealize.ShloMosaic Cert.BoxLoss Cert.Coerce Cert.Mean

/-- A box with real components, neither size negative and the height at least the floor. -/
structure Proper (p : Fin 4 → EReal) (r : Fin 4 → ℝ) : Prop where
  coe : p = fun k => (r k : EReal)
  width : 0 ≤ r 2
  floor : tiny ≤ p 3

namespace Proper

variable {p : Fin 4 → EReal} {r : Fin 4 → ℝ}

/-- The height of a proper box is positive. -/
theorem height (h : Proper p r) : 0 < r 3 := by
  have k := tiny_pos.trans_le h.floor
  rw [h.coe] at k
  exact EReal.coe_pos.1 k

/-- The ratio of the sizes is a real number. -/
theorem ratio (h : Proper p r) : Ideal.div (p 2) (p 3) = ((r 2 / r 3 : ℝ) : EReal) := by
  rw [h.coe, coe_quotient _ h.height.ne']

/-- That number is not negative. -/
theorem ratio_nonneg (h : Proper p r) : 0 ≤ r 2 / r 3 := div_nonneg h.width h.height.le

end Proper

/-- The loss of two real boxes, as a function of the angle. -/
abbrev realLoss (a : ℝ) (r s : Fin 4 → ℝ) : ℝ := RealLoss.loss a (r 0) (r 1) (r 2) (r 3) (s 0) (s 1) (s 2) (s 3)

/-- The angle as the kernel computes it. -/
def polyAngle (r s : Fin 4 → ℝ) : ℝ := Angle.atanPoly (|s 2 / s 3 - r 2 / r 3| / (1 + s 2 / s 3 * (r 2 / r 3)))

/-- The angle between the two aspect ratios. -/
def trueAngle (r s : Fin 4 → ℝ) : ℝ := |Real.arctan (s 2 / s 3) - Real.arctan (r 2 / r 3)|

section
variable {p q : Fin 4 → EReal} {r s : Fin 4 → ℝ} (hp : Proper p r) (hq : Proper q s)
include hp hq

/-- The kernel's loss of two proper boxes is a real number. -/
theorem boxLoss_real : KernelIdeal.RefValue.boxLoss p q = (realLoss (polyAngle r s) r s : EReal) := by
  have pos : 0 ≤ |s 2 / s 3 - r 2 / r 3| / (1 + s 2 / s 3 * (r 2 / r 3)) := by
    have := hp.ratio_nonneg
    have := hq.ratio_nonneg
    positivity
  unfold KernelIdeal.RefValue.boxLoss
  rw [max_eq_left hp.floor, max_eq_left hq.floor, hp.ratio, hq.ratio, tanDiff_coe hp.ratio_nonneg hq.ratio_nonneg,
    atanPoly_coe pos, hp.coe, hq.coe]
  exact loss_coe _ _ _ _ hp.width hp.height.le hq.width hq.height.le _

/-- The loss of two proper boxes at the true arctangents is a real number. -/
theorem trueLoss_real : Exact.trueLoss p q = (realLoss (trueAngle r s) r s : EReal) := by
  have sign : ∀ a : ℝ, RealLoss.aspect |a| = RealLoss.aspect a := fun a => by
    unfold RealLoss.aspect
    rw [abs_mul_abs_self]
  have e : realLoss (trueAngle r s) r s = realLoss (Real.arctan (s 2 / s 3) - Real.arctan (r 2 / r 3)) r s := by
    unfold realLoss trueAngle RealLoss.loss RealLoss.boxGap
    rw [sign]
  have hw : (0 : EReal) ≤ q 2 := by
    rw [hq.coe]
    exact EReal.coe_nonneg.2 hq.width
  unfold Exact.trueLoss
  rw [lossPow_eq _ _ _ _ _ _ _ _ _ hw (tiny_pos.le.trans hq.floor), hp.ratio, hq.ratio, Ideal.atan_coe, Ideal.atan_coe,
    ← EReal.coe_sub, hp.coe, hq.coe, e]
  exact loss_coe _ _ _ _ hp.width hp.height.le hq.width hq.height.le _

/-- The two losses of two proper boxes are near each other. -/
theorem box_near :
    |realLoss (polyAngle r s) r s - realLoss (trueAngle r s) r s| ≤ 195 / 10 ^ 8 * realLoss (trueAngle r s) r s := by
  have pos : 0 ≤ |s 2 / s 3 - r 2 / r 3| / (1 + s 2 / s 3 * (r 2 / r 3)) := by
    have := hp.ratio_nonneg
    have := hq.ratio_nonneg
    positivity
  refine RealLoss.loss_near _ _ _ _ hp.width hp.height.le hq.width hq.height.le (abs_nonneg _) ?_
  unfold polyAngle trueAngle
  rw [Angle.arctan_diff hp.ratio_nonneg hq.ratio_nonneg]
  exact Angle.atanPoly_near pos

end

/-- The filling box is proper. -/
theorem half_proper : Proper KernelIdeal.RefValue.halfBox fun _ => 1 / 2 where
  coe := funext fun _ => num_half
  width := by norm_num
  floor := tiny_le_half

/-- The kernel's loss of a filling box is tiny. -/
theorem fill_small : ∃ z : ℝ, 0 ≤ z ∧ z ≤ 3 / 10 ^ 19 ∧
    KernelIdeal.RefValue.boxLoss KernelIdeal.RefValue.halfBox KernelIdeal.RefValue.halfBox = (z : EReal) := by
  refine ⟨_, ?_, ?_, boxLoss_real half_proper half_proper⟩
  · exact RealLoss.loss_nonneg _ _ _ _ (by norm_num) (by norm_num) (by norm_num) (by norm_num) _
  · have e : polyAngle (fun _ => 1 / 2) (fun _ => 1 / 2) = 0 := by
      norm_num [polyAngle, Angle.atanPoly, Angle.oddPoly]
    rw [e]
    exact RealLoss.loss_half

/-- The totals of the two losses over proper boxes are real and near each other. -/
theorem totals {ι : Type*} [Fintype ι] (p q : ι → Fin 4 → EReal) (r s : ι → Fin 4 → ℝ)
    (hp : ∀ b, Proper (p b) (r b)) (hq : ∀ b, Proper (q b) (s b)) :
    ∃ k t : ℝ, 0 ≤ t ∧ |k - t| ≤ 195 / 10 ^ 8 * t + 1 / 10 ^ 14 ∧
      ∑ b, Exact.trueLoss (p b) (q b) = (t : EReal) ∧
      ∑ b, KernelIdeal.RefValue.boxLoss (p b) (q b)
        + ∑ _b : Fin 30464, KernelIdeal.RefValue.boxLoss KernelIdeal.RefValue.halfBox KernelIdeal.RefValue.halfBox
        = (k : EReal) := by
  obtain ⟨z, z0, z1, hz⟩ := fill_small
  have near := RealLoss.sum_near (fun b => realLoss (polyAngle (r b) (s b)) (r b) (s b))
    (fun b => realLoss (trueAngle (r b) (s b)) (r b) (s b)) _ fun b => box_near (hp b) (hq b)
  have fill : ∑ _b : Fin 30464, z = 30464 * z := by
    rw [Finset.sum_const, Finset.card_univ, Fintype.card_fin, nsmul_eq_mul]
    norm_num
  refine ⟨∑ b, realLoss (polyAngle (r b) (s b)) (r b) (s b) + ∑ _b : Fin 30464, z,
    ∑ b, realLoss (trueAngle (r b) (s b)) (r b) (s b), ?_, ?_, ?_, ?_⟩
  · exact Finset.sum_nonneg fun b _ =>
      RealLoss.loss_nonneg _ _ _ _ (hp b).width (hp b).height.le (hq b).width (hq b).height.le _
  · rw [fill]
    obtain ⟨lo, hi⟩ := abs_le.1 near
    have : 30464 * z ≤ 1 / 10 ^ 14 := by
      have : 30464 * (3 / 10 ^ 19 : ℝ) ≤ 1 / 10 ^ 14 := by norm_num
      linarith
    refine abs_le.2 ⟨?_, ?_⟩ <;> linarith
  · rw [← sum_coe]
    exact Finset.sum_congr rfl fun b _ => trueLoss_real (hp b) (hq b)
  · rw [EReal.coe_add, ← sum_coe, ← sum_coe]
    exact congrArg₂ (· + ·) (Finset.sum_congr rfl fun b _ => boxLoss_real (hp b) (hq b)) (Finset.sum_congr rfl fun _ _ => hz)

/-- The value of the relative tolerance. -/
theorem num_relative : num 0x360637BD#32 = ((8796093 / 4398046511104 : ℝ) : EReal) := by
  rw [num_value 0x360637BD#32 108 407485 1 (by simp) (by decide) (by decide) (by decide) (by decide)]
  norm_num

/-- The value of the absolute tolerance. -/
theorem num_absolute : num 0x219392EF#32 = ((9671407 / 2 ^ 83 : ℝ) : EReal) := by
  rw [num_value 0x219392EF#32 67 1282799 1 (by simp) (by decide) (by decide) (by decide) (by decide)]
  norm_num

/-- Near totals make the last step's results within the tolerances of the postcondition. -/
theorem within {k t w : ℝ} (ht : 0 ≤ t) (hw : 0 ≤ w) (hw' : w ≤ 5 / 2) (h : |k - t| ≤ 195 / 10 ^ 8 * t + 1 / 10 ^ 14) :
    max (((k / 4000000 * w : ℝ) : EReal) - ((t / 4000000 * w : ℝ) : EReal))
        (-(((k / 4000000 * w : ℝ) : EReal) - ((t / 4000000 * w : ℝ) : EReal)))
      ≤ num 0x360637BD#32 * ((t / 4000000 * w : ℝ) : EReal) + num 0x219392EF#32 := by
  rw [num_relative, num_absolute, ← EReal.coe_sub, ← EReal.coe_neg, coe_max, ← EReal.coe_mul, ← EReal.coe_add,
    EReal.coe_le_coe_iff, ← abs_eq_max_neg, show k / 4000000 * w - t / 4000000 * w = (k - t) * (w / 4000000) by ring, abs_mul,
    abs_of_nonneg (show 0 ≤ w / 4000000 by positivity)]
  refine (mul_le_mul_of_nonneg_right h (by positivity)).trans ?_
  have a : (195 / 10 ^ 8 : ℝ) * (t / 4000000 * w) ≤ 8796093 / 4398046511104 * (t / 4000000 * w) :=
    mul_le_mul_of_nonneg_right (by norm_num) (by positivity)
  have b : (1 / 10 ^ 14 : ℝ) * (w / 4000000) ≤ 9671407 / 2 ^ 83 := by
    have : (1 / 10 ^ 14 : ℝ) * (5 / 2 / 4000000) ≤ 9671407 / 2 ^ 83 := by norm_num
    linarith
  linarith

end Cert.Near
-- ==== Proof.PreProper.lean ====
/-
  The precondition of the comparison with the true arctangents, read at a box: its components are real numbers, both heights
  are at least the tiny floor, and neither width is negative.
-/
module

public import proofs.«01_k».proof.Proof.Gen.Pre_sizes_proper
public import proofs.«01_k».proof.Proof.Loss
public import Idealize.ShloMosaic.Lib.Pipeline.ValueKit

@[expose] public section

set_option maxRecDepth 16384

noncomputable section

namespace Cert.Pre_sizes_proper

open Idealize.ShloMosaic Cert.BoxLoss

attribute [local instance] Cert.Pre_sizes_proper.Gen.facts

/-- Two bits joined by `and` are one exactly when both are. -/
theorem both_bits (u v : BitVec 1) : IntOp.andi u v = 1#1 ↔ u = 1#1 ∧ v = 1#1 := by
  revert u v
  decide

/-- A bit that records a decision is one exactly when the decision is yes. -/
theorem bit_decides (p : Prop) [Decidable p] : BitVec.ofBool (decide p) = 1#1 ↔ p := by
  by_cases h : p <;> simp [h]

/-- The largest pattern that is not a NaN is the infinity. -/
theorem num_infinity : num 0x7F800000#32 = (⊤ : EReal) := by
  simp [Ideal.ofBits, Ideal.ieee]

/-- What is below infinity in absolute value is a real number. -/
theorem real_of_lt {x : EReal} (h : max x (-x) < num 0x7F800000#32) : ∃ r : ℝ, x = (r : EReal) := by
  rw [num_infinity] at h
  induction x with
  | bot => simp at h
  | top => simp at h
  | coe r => exact ⟨r, rfl⟩

/-- The precondition at box `b`. -/
theorem read (x0 x1 : FVec Ideal S4000000x4 .f32) (h : fn (F := Ideal) x0 x1 = fun _ => 1#1) (b : Fin 4000000) :
    (∀ k : Fin 4, ∃ r : ℝ, x0 (ix2 b k) = (r : EReal)) ∧ (∀ k : Fin 4, ∃ r : ℝ, x1 (ix2 b k) = (r : EReal))
      ∧ tiny ≤ x0 (ix2 b 3) ∧ tiny ≤ x1 (ix2 b 3) ∧ (0 : EReal) ≤ x0 (ix2 b 2) ∧ (0 : EReal) ≤ x1 (ix2 b 2) := by
  have hb := congrFun h (ix1 b)
  unfold fn fn_part1 at hb
  pointwise at hb
  simp only [both_bits] at hb
  obtain ⟨⟨⟨⟨⟨⟨⟨f0, f1⟩, f2⟩, f3⟩, h0⟩, h1⟩, w0⟩, w1⟩ := hb
  refine ⟨fun k => ?_, fun k => ?_, (bit_decides _).1 h0, (bit_decides _).1 h1, (bit_decides _).1 w0, (bit_decides _).1 w1⟩
  · fin_cases k
    exacts [real_of_lt ((bit_decides _).1 f0.1), real_of_lt ((bit_decides _).1 f1.1), real_of_lt ((bit_decides _).1 f2.1),
      real_of_lt ((bit_decides _).1 f3.1)]
  · fin_cases k
    exacts [real_of_lt ((bit_decides _).1 f0.2), real_of_lt ((bit_decides _).1 f1.2), real_of_lt ((bit_decides _).1 f2.2),
      real_of_lt ((bit_decides _).1 f3.2)]

end Cert.Pre_sizes_proper
-- ==== Proof.Close.lean ====
/-
  The kernel's result satisfies the postcondition wherever the boxes are real numbers, the heights reach the floor and the
  widths are not negative.
-/
module

public import proofs.«01_k».proof.Proof.Value
public import proofs.«01_k».proof.Proof.Near
public import proofs.«01_k».proof.Proof.PreProper

@[expose] public section

set_option maxRecDepth 16384

noncomputable section

namespace Cert.Close

open Idealize.ShloMosaic Idealize.ShloMosaic.TcCoe Idealize.SL.Sem Cert.BoxLoss Cert.Near

attribute [local instance] Cert.Pre_sizes_proper.Gen.facts Cert.Post_near_exact.Gen.facts

/-- Boxes of which the precondition holds have real components and are proper. -/
theorem proper (x0 x1 : FVec Ideal Pre_sizes_proper.S4000000x4 .f32)
    (h : Pre_sizes_proper.fn (F := Ideal) x0 x1 = fun _ => 1#1) :
    ∃ r s : Fin 4000000 → Fin 4 → ℝ,
      (∀ b, Proper (fun k => x0 (ix2 b k)) (r b)) ∧ ∀ b, Proper (fun k => x1 (ix2 b k)) (s b) := by
  have hb := Pre_sizes_proper.read x0 x1 h
  choose r hr using fun b => (hb b).1
  choose s hs using fun b => (hb b).2.1
  refine ⟨r, s, fun b => ⟨funext (hr b), ?_, (hb b).2.2.1⟩, fun b => ⟨funext (hs b), ?_, (hb b).2.2.2.1⟩⟩
  · exact EReal.coe_nonneg.1 ((hb b).2.2.2.2.1.trans_eq (hr b 2))
  · exact EReal.coe_nonneg.1 ((hb b).2.2.2.2.2.trans_eq (hs b 2))

variable (m : (ℓ : Loc KernelIdeal.nD KernelIdeal.τ KernelIdeal.sig) → Buf (Elt Ideal) ℓ) (c : Dev KernelIdeal.nD)

/-- The kernel's result over the boxes of the arguments. -/
theorem result (i : KernelIdeal.S_.Idx) :
    (Pipeline.afterTail₀ KernelIdeal.cfgs (KernelIdeal.Gen.dats m) 0 (KernelIdeal.Gen.V0 m) [KernelIdeal.Gen.hostOps1] c
        KernelIdeal.main_v23 : Vec Ideal KernelIdeal.S_ .f32) i
      = finish (fun i j => ∑ b : Fin 4000000,
            hit (KernelIdeal.RefValue.target m c (ix2 b 0)) (KernelIdeal.RefValue.target m c (ix2 b 1)) i j)
          (∑ b : Fin 4000000, KernelIdeal.RefValue.boxLoss (fun k => KernelIdeal.RefValue.pred m c (ix2 b k))
              (fun k => KernelIdeal.RefValue.target m c (ix2 b k))
            + ∑ _b : Fin 30464, KernelIdeal.RefValue.boxLoss KernelIdeal.RefValue.halfBox KernelIdeal.RefValue.halfBox) := by
  refine (KernelIdeal.RefValue.result m c i).trans ?_
  exact congrArg₂ finish
    (funext fun i => funext fun j => Finset.sum_congr rfl fun b _ => Value.hit_read m c i j b)
    (congrArg₂ (· + ·) (Finset.sum_congr rfl fun b _ => Value.loss_read m c b) (Finset.sum_congr rfl fun _ _ => rfl))

/-- The postcondition holds of the kernel's result. -/
theorem near_exact
    (h : Pre_sizes_proper.fn (F := Ideal) (KernelIdeal.RefValue.pred m c) (KernelIdeal.RefValue.target m c) = fun _ => 1#1) :
    Post_near_exact.fn (F := Ideal) (KernelIdeal.RefValue.pred m c) (KernelIdeal.RefValue.target m c)
      (Pipeline.afterTail₀ KernelIdeal.cfgs (KernelIdeal.Gen.dats m) 0 (KernelIdeal.Gen.V0 m) [KernelIdeal.Gen.hostOps1] c
        KernelIdeal.main_v23) = fun _ => 1#1 := by
  obtain ⟨r, s, hr, hs⟩ := proper _ _ h
  obtain ⟨k, t, ht, near, et, ek⟩ := totals _ _ r s hr hs
  obtain ⟨n, n0, ⟨i₀, j₀, n1⟩, en⟩ := Mean.counts_real
    (fun b : Fin 4000000 => KernelIdeal.RefValue.target m c (ix2 b 0))
    (fun b => KernelIdeal.RefValue.target m c (ix2 b 1)) ⟨0, by norm_num⟩
  obtain ⟨w, w0, w1, fin⟩ := Mean.finish_real n n0 n1
  refine Exact.holds _ _ _ ((t / 4000000 * w : ℝ) : EReal) ?_ fun i => ?_
  · rw [et, en, fin]
  · rw [result m c i, ek, en, fin]
    exact within ht w0 w1 near

end Cert.Close
-- ==== Proof.lean ====
/-
  The proof of `Cert.Claim`. The two frames of the kernel are the generated ones, the frames of the reference come from its run,
  the value claim joins the two runs by `Cert.Value.agree`: the kernel's result and the reference's are the same function of
  the argument arrays wherever the precondition holds; and the claim about the true arctangents is `Cert.Close.near_exact`, read
  at the end of the kernel's run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sizes_positive
public import proofs.«01_k».proof.Proof.Gen.Pre_sizes_proper
public import proofs.«01_k».proof.Proof.Gen.Post_near_exact
public import proofs.«01_k».proof.Proof.Close
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

attribute [local instance] Cert.KernelIdeal.Gen.facts Cert.ReferenceIdeal.Gen.facts Cert.Pre_sizes_positive.Gen.facts
  Cert.Pre_sizes_proper.Gen.facts Cert.Post_near_exact.Gen.facts

/-- The reference runs, leaves its arguments unchanged and every semaphore counter at zero: it has no semaphore. -/
theorem reference_frame : Cert.quiescent_ReferenceIdeal := fun m g _ =>
  (θ_run Cert.ReferenceIdeal.defs _ _).mono
    (fun r h => ⟨fun c => (h c).2, sem_eq_zero_of_no_sems rfl r.2⟩) (Cert.ReferenceIdeal.Value.run m g)

/-- The two results are equal when the two memories hold the same arguments, of which the precondition holds. -/
theorem results_equal (m : (ℓ : Loc Cert.KernelIdeal.nD Cert.KernelIdeal.τ Cert.KernelIdeal.sig) → Buf (Elt Ideal) ℓ)
    (x0 x1 : Vec Ideal Cert.KernelIdeal.S4000000x4 .f32) (c : Dev Cert.KernelIdeal.nD)
    (h0 : x0 = Cert.KernelIdeal.RefValue.pred m c) (h1 : x1 = Cert.KernelIdeal.RefValue.target m c)
    (hpre : Cert.Pre_KernelIdeal_sizes_positive m) :
    (Cert.ReferenceIdeal.Read.val_main_v336 (F := Ideal) x0 x1 : Vec Ideal Cert.KernelIdeal.S_ .f32)
      = Pipeline.afterTail₀ Cert.KernelIdeal.cfgs (Cert.KernelIdeal.Gen.dats m) 0 (Cert.KernelIdeal.Gen.V0 m)
          [Cert.KernelIdeal.Gen.hostOps1] c Cert.KernelIdeal.main_v23 := by
  subst h0 h1
  exact funext fun i => (Cert.Value.agree m c (hpre c) i).symm

/-- The kernel runs, ends with its result as the generated run leaves it, and leaves its arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v23)
          = Pipeline.afterTail₀ Cert.KernelIdeal.cfgs (Cert.KernelIdeal.Gen.dats m) 0 (Cert.KernelIdeal.Gen.V0 m)
              [Cert.KernelIdeal.Gen.hostOps1] c Cert.KernelIdeal.main_v23
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) := by
  run_from Cert.KernelIdeal.Gen.run_main m g
  · exact Cert.KernelIdeal.Gen.W_main_arg0 m (Cert.KernelIdeal.Gen.dats m) c
  · exact Cert.KernelIdeal.Gen.W_main_arg1 m (Cert.KernelIdeal.Gen.dats m) c

/-- From memories holding the same arguments, of which the precondition holds, the kernel's result is the reference's. -/
theorem value : Cert.algebraic_KernelIdeal_ReferenceIdeal_pre_sizes_positive := by
  intro m g m' g' hpre hagree
  refine ⟨fun c => Pipeline.afterTail₀ Cert.KernelIdeal.cfgs (Cert.KernelIdeal.Gen.dats m) 0 (Cert.KernelIdeal.Gen.V0 m)
          [Cert.KernelIdeal.Gen.hostOps1] c Cert.KernelIdeal.main_v23, kernel_run m g, ?_⟩
  refine (θ_run Cert.ReferenceIdeal.defs _ _).mono (fun r h c => ⟨?_, (h c).2⟩) (Cert.ReferenceIdeal.Value.run m' g')
  exact (h c).1.trans ((Cert.ReferenceIdeal.Read.val_main_v336_eq (StableHlo.launchContents m' c)).trans
    (results_equal m _ _ c (hagree c).1 (hagree c).2 hpre))

/-- From a memory of which the precondition holds, the kernel's result is near the loss at the true arctangents. -/
theorem near : Cert.holds_KernelIdeal_near_exact_pre_sizes_proper := by
  intro m g hpre
  refine (θ_run Cert.KernelIdeal.defs _ _).mono (fun r h c => ⟨(h c).2.1, (h c).2.2, ?_⟩) (kernel_run m g)
  exact (congrArg (Cert.Post_near_exact.fn (F := Ideal) _ _) (h c).1).trans (Cert.Close.near_exact m c (hpre c))

/-- The claim. -/
theorem claim : Cert.Claim :=
  ⟨Cert.Kernel.Gen.facts, Cert.KernelIdeal.Gen.facts, Cert.ReferenceIdeal.Gen.facts, Cert.Pre_sizes_positive.Gen.facts,
    Cert.Pre_sizes_proper.Gen.facts, Cert.Post_near_exact.Gen.facts,
    fun m g _ => Cert.Kernel.Gen.frame m g, fun m g _ => Cert.KernelIdeal.Gen.frame m g,
    fun m g _ => Cert.KernelIdeal.Gen.frame m g, fun m g _ => Cert.KernelIdeal.Gen.frame m g,
    reference_frame, fun m g _ => reference_frame m g trivial, trivial, value, near⟩

end Cert.Proof

end
